-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S8x768 : Shape := ⟨2, ![8, 768]⟩
abbrev S1 : Shape := ⟨1, ![1]⟩
abbrev S8x1536x768 : Shape := ⟨3, ![8, 1536, 768]⟩
abbrev S8x768x1536 : Shape := ⟨3, ![8, 768, 1536]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S1x2048x768 .f32) (main_arg1 : FVec F S8x768 .f32) (main_arg2 : FVec F S1 .f32) (main_arg3 : FVec F S8x1536x768 .f32) (main_arg4 : FVec F S8x1536x768 .f32) (main_arg5 : FVec F S8x768x1536 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S1x2048x768 : Shape := ⟨3, ![1, 2048, 768]⟩
abbrev S8x768 : Shape := ⟨2, ![8, 768]⟩
abbrev S1 : Shape := ⟨1, ![1]⟩
abbrev S8x1536x768 : Shape := ⟨3, ![8, 1536, 768]⟩
abbrev S8x768x1536 : Shape := ⟨3, ![8, 768, 1536]⟩
abbrev S2048x768 : Shape := ⟨2, ![2048, 768]⟩
abbrev S1x1 : Shape := ⟨2, ![1, 1]⟩
abbrev S1x1536x768 : Shape := ⟨3, ![1, 1536, 768]⟩
abbrev S1x768x1536 : Shape := ⟨3, ![1, 768, 1536]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S2048x640 : Shape := ⟨2, ![2048, 640]⟩
abbrev S640x768 : Shape := ⟨2, ![640, 768]⟩
abbrev S1536x768 : Shape := ⟨2, ![1536, 768]⟩
abbrev S768x1536 : Shape := ⟨2, ![768, 1536]⟩
abbrev S640x1536 : Shape := ⟨2, ![640, 1536]⟩
abbrev S_ : Shape := ⟨0, ![]⟩

abbrev nBuf : Space → Nat
  | .hbm => 16
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S1, .f32⟩
  | .hbm, ⟨3, _⟩ => ⟨S8x1536x768, .f32⟩
  | .hbm, ⟨4, _⟩ => ⟨S8x1536x768, .f32⟩
  | .hbm, ⟨5, _⟩ => ⟨S8x768x1536, .f32⟩
  | .hbm, ⟨6, _⟩ => ⟨S2048x768, .f32⟩
  | .hbm, ⟨7, _⟩ => ⟨S1x1, .f32⟩
  | .hbm, ⟨8, _⟩ => ⟨S2048x768, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x2048x768, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x768, .f32⟩
  | .local _ .vmem, ⟨1, _⟩ => ⟨S8x768, .f32⟩
  | .local _ .vmem, ⟨2, _⟩ => ⟨S1x1, .f32⟩
  | .local _ .vmem, ⟨3, _⟩ => ⟨S1x1536x768, .f32⟩
  | .local _ .vmem, ⟨4, _⟩ => ⟨S1x1536x768, .f32⟩
  | .local _ .vmem, ⟨5, _⟩ => ⟨S1x1536x768, .f32⟩
  | .local _ .vmem, ⟨6, _⟩ => ⟨S1x1536x768, .f32⟩
  | .local _ .vmem, ⟨7, _⟩ => ⟨S1x768x1536, .f32⟩
  | .local _ .vmem, ⟨8, _⟩ => ⟨S1x768x1536, .f32⟩
  | .local _ .vmem, ⟨9, _⟩ => ⟨S2048x768, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S2048x8, .f32⟩
  | .local _ .vmem, ⟨14, _⟩ => ⟨S2048x8, .f32⟩
  | .local _ .vmem, ⟨15, _⟩ => ⟨S2048x768, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_23 : BitVec 32 := 0#32
  let v45 : BitVec 1 := Scalar.cmpi .eq arg0 c0_i32_23
  let v46 : BitVec 32 := Scalar.extui v45
  let c0_i32_24 : BitVec 32 := 0#32
  let v47 : BitVec 1 := Scalar.cmpi .ne v46 c0_i32_24
  v47

def k0_cond4 (i : grid0.Coords) : BitVec 1 :=
  let arg0 : BitVec 32 := BitVec.ofNat 32 (i 0).val
  let c0_i32_25 : BitVec 32 := 0#32
  let v48 : BitVec 1 := Scalar.cmpi .ne arg0 c0_i32_25
  let v49 : BitVec 32 := Scalar.extui v48
  let c0_i32_26 : BitVec 32 := 0#32
  let v50 : BitVec 1 := Scalar.cmpi .ne v49 c0_i32_26
  v50

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1536x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x2048x768 : Shape := ⟨3, ![1, 2048, 768]⟩
abbrev S8x768 : Shape := ⟨2, ![8, 768]⟩
abbrev S1 : Shape := ⟨1, ![1]⟩
abbrev S8x1536x768 : Shape := ⟨3, ![8, 1536, 768]⟩
abbrev S8x768x1536 : Shape := ⟨3, ![8, 768, 1536]⟩
abbrev S2048x768 : Shape := ⟨2, ![2048, 768]⟩
abbrev S_ : Shape := ⟨0, ![]⟩
abbrev S768x8 : Shape := ⟨2, ![768, 8]⟩
abbrev S2048x8 : Shape := ⟨2, ![2048, 8]⟩
abbrev S1x1 : Shape := ⟨2, ![1, 1]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S8 : Shape := ⟨1, ![8]⟩
abbrev S4096 : Shape := ⟨1, ![4096]⟩
abbrev S2048x1x768 : Shape := ⟨3, ![2048, 1, 768]⟩
abbrev S2048x2x768 : Shape := ⟨3, ![2048, 2, 768]⟩
abbrev S4096x768 : Shape := ⟨2, ![4096, 768]⟩
abbrev S8x640x768 : Shape := ⟨3, ![8, 640, 768]⟩
abbrev S4096x1 : Shape := ⟨2, ![4096, 1]⟩
abbrev S4096x2 : Shape := ⟨2, ![4096, 2]⟩
abbrev S8x640x1536 : Shape := ⟨3, ![8, 640, 1536]⟩

abbrev nBuf : Space → Nat
  | .hbm => 232
  | .vmem => 0
  | .smem => 0
  | _ => 0

abbrev hbmTy0_0 (i : Nat) : BufTy := match i % 128 with
  | 0 => ⟨S1x2048x768, .f32⟩
  | 1 => ⟨S8x768, .f32⟩
  | 2 => ⟨S1, .f32⟩
  | 3 => ⟨S8x1536x768, .f32⟩
  | 4 => ⟨S8x1536x768, .f32⟩
  | 5 => ⟨S8x768x1536, .f32⟩
  | 6 => ⟨S2048x768, .f32⟩
  | 7 => ⟨S_, .f32⟩
  | 8 => ⟨S_, .f32⟩
  | 9 => ⟨S_, .f32⟩
  | 10 => ⟨S1, .f32⟩
  | 11 => ⟨S1, .f32⟩
  | 12 => ⟨S_, .f32⟩
  | 13 => ⟨S1, .f32⟩
  | 14 => ⟨S1, .f32⟩
  | 15 => ⟨S768x8, .f32⟩
  | 16 => ⟨S2048x8, .f32⟩
  | 17 => ⟨S1x1, .f32⟩
  | 18 => ⟨S2048x8, .f32⟩
  | 19 => ⟨S2048x8, .f32⟩
  | 20 => ⟨S_, .f32⟩
  | 21 => ⟨S2048, .f32⟩
  | 22 => ⟨S_, .f32⟩
  | 23 => ⟨S2048, .f32⟩
  | 24 => ⟨S2048, .f32⟩
  | 25 => ⟨S2048x1, .f32⟩
  | 26 => ⟨S2048x8, .f32⟩
  | 27 => ⟨S2048x8, .f32⟩
  | 28 => ⟨S2048x8, .f32⟩
  | 29 => ⟨S_, .f32⟩
  | 30 => ⟨S2048, .f32⟩
  | 31 => ⟨S2048x1, .f32⟩
  | 32 => ⟨S2048x8, .f32⟩
  | 33 => ⟨S2048x8, .f32⟩
  | 34 => ⟨S2048x2, .f32⟩
  | 35 => ⟨S2048x2, .i32⟩
  | 36 => ⟨S2048, .i32⟩
  | 37 => ⟨S2048x1, .i32⟩
  | 38 => ⟨S_, .f32⟩
  | 39 => ⟨S2048x8, .f32⟩
  | 40 => ⟨S_, .i32⟩
  | 41 => ⟨S2048x1, .i32⟩
  | 42 => ⟨S2048x1, .i1⟩
  | 43 => ⟨S_, .i32⟩
  | 44 => ⟨S2048x1, .i32⟩
  | 45 => ⟨S2048x1, .i32⟩
  | 46 => ⟨S2048x1, .i32⟩
  | 47 => ⟨S_, .i32⟩
  | 48 => ⟨S2048x2, .i32⟩
  | 49 => ⟨S2048x2, .i1⟩
  | 50 => ⟨S_, .i32⟩
  | 51 => ⟨S2048x2, .i32⟩
  | 52 => ⟨S2048x2, .i32⟩
  | 53 => ⟨S2048x2, .i32⟩
  | 54 => ⟨S2048x2, .i32⟩
  | 55 => ⟨S2048x2x1, .i32⟩
  | 56 => ⟨S2048x2x1, .i32⟩
  | 57 => ⟨S2048x2x2, .i32⟩
  | 58 => ⟨S_, .f32⟩
  | 59 => ⟨S2048x2, .f32⟩
  | 60 => ⟨S2048x8, .f32⟩
  | 61 => ⟨S_, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S_, .f32⟩
  | 69 => ⟨S8, .f32⟩
  | 70 => ⟨S8, .f32⟩
  | 71 => ⟨S8, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S2048x8, .f32⟩
  | 81 => ⟨S2048x8, .f32⟩
  | 82 => ⟨S2048x8, .f32⟩
  | 83 => ⟨S2048x8, .f32⟩
  | 84 => ⟨S_, .f32⟩
  | 85 => ⟨S2048, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S2048x8, .f32⟩
  | 96 => ⟨S_, .f32⟩
  | 97 => ⟨S2048x8, .f32⟩
  | 98 => ⟨S2048x8, .i1⟩
  | 99 => ⟨S2048x8, .f32⟩
  | 100 => ⟨S2048x8, .f32⟩
  | 101 => ⟨S2048x8, .i32⟩
  | 102 => ⟨S_, .i32⟩
  | 103 => ⟨S2048x8, .i32⟩
  | 104 => ⟨S2048x8, .i32⟩
  | 105 => ⟨S_, .i32⟩
  | 106 => ⟨S_, .i32⟩
  | 107 => ⟨S_, .i32⟩
  | 108 => ⟨S2048x8, .i32⟩
  | 109 => ⟨S2048x8, .i32⟩
  | 110 => ⟨S_, .i32⟩
  | 111 => ⟨S2048x8, .i32⟩
  | 112 => ⟨S2048x8, .i32⟩
  | 113 => ⟨S_, .f32⟩
  | 114 => ⟨S8, .f32⟩
  | 115 => ⟨S_, .f32⟩
  | 116 => ⟨S8, .f32⟩
  | 117 => ⟨S8, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S4096, .i32⟩
  | 126 => ⟨S_, .i32⟩
  | 127 => ⟨S2048x1, .i32⟩
  | _ => ⟨S1x2048x768, .f32⟩

abbrev hbmTy0_1 (i : Nat) : BufTy := match i % 128 with
  | 0 => ⟨S2048x1, .i1⟩
  | 1 => ⟨S_, .i32⟩
  | 2 => ⟨S2048x1, .i32⟩
  | 3 => ⟨S2048x1, .i32⟩
  | 4 => ⟨S2048x1, .i32⟩
  | 5 => ⟨S_, .i32⟩
  | 6 => ⟨S2048x2, .i32⟩
  | 7 => ⟨S2048x2, .i1⟩
  | 8 => ⟨S_, .i32⟩
  | 9 => ⟨S2048x2, .i32⟩
  | 10 => ⟨S2048x2, .i32⟩
  | 11 => ⟨S2048x2, .i32⟩
  | 12 => ⟨S2048x2, .i32⟩
  | 13 => ⟨S2048x2x1, .i32⟩
  | 14 => ⟨S2048x2x1, .i32⟩
  | 15 => ⟨S2048x2x2, .i32⟩
  | 16 => ⟨S2048x2, .f32⟩
  | 17 => ⟨S_, .i32⟩
  | 18 => ⟨S2048x1, .i32⟩
  | 19 => ⟨S2048x1, .i1⟩
  | 20 => ⟨S_, .i32⟩
  | 21 => ⟨S2048x1, .i32⟩
  | 22 => ⟨S2048x1, .i32⟩
  | 23 => ⟨S2048x1, .i32⟩
  | 24 => ⟨S_, .i32⟩
  | 25 => ⟨S2048x2, .i32⟩
  | 26 => ⟨S2048x2, .i1⟩
  | 27 => ⟨S_, .i32⟩
  | 28 => ⟨S2048x2, .i32⟩
  | 29 => ⟨S2048x2, .i32⟩
  | 30 => ⟨S2048x2, .i32⟩
  | 31 => ⟨S2048x2, .i32⟩
  | 32 => ⟨S2048x2x1, .i32⟩
  | 33 => ⟨S2048x2x1, .i32⟩
  | 34 => ⟨S2048x2x2, .i32⟩
  | 35 => ⟨S2048x2, .i32⟩
  | 36 => ⟨S4096, .i32⟩
  | 37 => ⟨S2048x1x768, .f32⟩
  | 38 => ⟨S2048x2x1, .f32⟩
  | 39 => ⟨S2048x2x768, .f32⟩
  | 40 => ⟨S2048x2x768, .f32⟩
  | 41 => ⟨S2048x2x768, .f32⟩
  | 42 => ⟨S4096x768, .f32⟩
  | 43 => ⟨S_, .f32⟩
  | 44 => ⟨S8x640x768, .f32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096x1, .i32⟩
  | 61 => ⟨S4096x2, .i32⟩
  | 62 => ⟨S8x640x768, .f32⟩
  | 63 => ⟨S8x640x1536, .f32⟩
  | 64 => ⟨S8x640x1536, .f32⟩
  | 65 => ⟨S8x640x1536, .f32⟩
  | 66 => ⟨S8x640x1536, .f32⟩
  | 67 => ⟨S_, .f32⟩
  | 68 => ⟨S8x640x1536, .f32⟩
  | 69 => ⟨S8x640x1536, .f32⟩
  | 70 => ⟨S_, .f32⟩
  | 71 => ⟨S8x640x1536, .f32⟩
  | 72 => ⟨S8x640x1536, .f32⟩
  | 73 => ⟨S8x640x1536, .f32⟩
  | 74 => ⟨S8x640x1536, .f32⟩
  | 75 => ⟨S8x640x768, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096x1, .i32⟩
  | 92 => ⟨S4096x2, .i32⟩
  | 93 => ⟨S4096x768, .f32⟩
  | 94 => ⟨S2048x2x768, .f32⟩
  | 95 => ⟨S2048x2x1, .f32⟩
  | 96 => ⟨S2048x2x768, .f32⟩
  | 97 => ⟨S2048x2x768, .f32⟩
  | 98 => ⟨S2048x2x1, .f32⟩
  | 99 => ⟨S2048x2x768, .f32⟩
  | 100 => ⟨S2048x2x768, .f32⟩
  | 101 => ⟨S_, .f32⟩
  | 102 => ⟨S2048x768, .f32⟩
  | 103 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_values : Ref sig .tc := ⟨.hbm, 34, rfl⟩
abbrev main_indices : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_cst_11 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_13 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_cst_16 : Ref sig .tc := ⟨.hbm, 78, rfl⟩
abbrev main_call1_v0 : Ref sig .tc := ⟨.hbm, 79, rfl⟩
abbrev main_call1_v1 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_17 : Ref sig .tc := ⟨.hbm, 84, rfl⟩
abbrev main_v50 : Ref sig .tc := ⟨.hbm, 85, rfl⟩
abbrev main_cst_18 : Ref sig .tc := ⟨.hbm, 86, rfl⟩
abbrev main_v51 : Ref sig .tc := ⟨.hbm, 87, rfl⟩
abbrev main_cst_19 : Ref sig .tc := ⟨.hbm, 88, rfl⟩
abbrev main_v52 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_call2_call0_cst : Ref sig .tc := ⟨.hbm, 93, rfl⟩
abbrev main_call2_call0_v0 : Ref sig .tc := ⟨.hbm, 94, rfl⟩
abbrev main_v55 : Ref sig .tc := ⟨.hbm, 95, rfl⟩
abbrev main_cst_21 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_22 : Ref sig .tc := ⟨.hbm, 102, rfl⟩
abbrev main_v61 : Ref sig .tc := ⟨.hbm, 103, rfl⟩
abbrev main_v62 : Ref sig .tc := ⟨.hbm, 104, rfl⟩
abbrev main_c_23 : Ref sig .tc := ⟨.hbm, 105, rfl⟩
abbrev main_c_24 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v63 : Ref sig .tc := ⟨.hbm, 112, rfl⟩
abbrev main_cst_25 : Ref sig .tc := ⟨.hbm, 113, rfl⟩
abbrev main_v64 : Ref sig .tc := ⟨.hbm, 114, rfl⟩
abbrev main_cst_26 : Ref sig .tc := ⟨.hbm, 115, rfl⟩
abbrev main_v65 : Ref sig .tc := ⟨.hbm, 116, rfl⟩
abbrev main_v66 : Ref sig .tc := ⟨.hbm, 117, rfl⟩
abbrev main_cst_27 : Ref sig .tc := ⟨.hbm, 118, rfl⟩
abbrev main_v67 : Ref sig .tc := ⟨.hbm, 119, rfl⟩
abbrev main_cst_28 : Ref sig .tc := ⟨.hbm, 120, rfl⟩
abbrev main_v68 : Ref sig .tc := ⟨.hbm, 121, rfl⟩
abbrev main_cst_29 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_c_30 : Ref sig .tc := ⟨.hbm, 126, rfl⟩
abbrev main_v72 : Ref sig .tc := ⟨.hbm, 127, rfl⟩
abbrev main_v73 : Ref sig .tc := ⟨.hbm, 128, rfl⟩
abbrev main_c_31 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_c_32 : Ref sig .tc := ⟨.hbm, 133, rfl⟩
abbrev main_v77 : Ref sig .tc := ⟨.hbm, 134, rfl⟩
abbrev main_v78 : Ref sig .tc := ⟨.hbm, 135, rfl⟩
abbrev main_c_33 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_34 : Ref sig .tc := ⟨.hbm, 145, rfl⟩
abbrev main_v87 : Ref sig .tc := ⟨.hbm, 146, rfl⟩
abbrev main_v88 : Ref sig .tc := ⟨.hbm, 147, rfl⟩
abbrev main_c_35 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_c_36 : Ref sig .tc := ⟨.hbm, 152, rfl⟩
abbrev main_v92 : Ref sig .tc := ⟨.hbm, 153, rfl⟩
abbrev main_v93 : Ref sig .tc := ⟨.hbm, 154, rfl⟩
abbrev main_c_37 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_38 : Ref sig .tc := ⟨.hbm, 171, rfl⟩
abbrev main_v109 : Ref sig .tc := ⟨.hbm, 172, rfl⟩
abbrev main_c_39 : Ref sig .tc := ⟨.hbm, 173, rfl⟩
abbrev main_v110 : Ref sig .tc := ⟨.hbm, 174, rfl⟩
abbrev main_v111 : Ref sig .tc := ⟨.hbm, 175, rfl⟩
abbrev main_c_40 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_c_41 : Ref sig .tc := ⟨.hbm, 180, rfl⟩
abbrev main_v115 : Ref sig .tc := ⟨.hbm, 181, rfl⟩
abbrev main_v116 : Ref sig .tc := ⟨.hbm, 182, rfl⟩
abbrev main_c_42 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_call4_v0 : Ref sig .tc := ⟨.hbm, 193, rfl⟩
abbrev main_call4_v1 : Ref sig .tc := ⟨.hbm, 194, rfl⟩
abbrev main_call4_cst : Ref sig .tc := ⟨.hbm, 195, rfl⟩
abbrev main_call4_v2 : Ref sig .tc := ⟨.hbm, 196, rfl⟩
abbrev main_call4_v3 : Ref sig .tc := ⟨.hbm, 197, rfl⟩
abbrev main_call4_cst_0 : Ref sig .tc := ⟨.hbm, 198, rfl⟩
abbrev main_call4_v4 : Ref sig .tc := ⟨.hbm, 199, rfl⟩
abbrev main_call4_v5 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_c_43 : Ref sig .tc := ⟨.hbm, 204, rfl⟩
abbrev main_v129 : Ref sig .tc := ⟨.hbm, 205, rfl⟩
abbrev main_v130 : Ref sig .tc := ⟨.hbm, 206, rfl⟩
abbrev main_c_44 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_c_45 : Ref sig .tc := ⟨.hbm, 211, rfl⟩
abbrev main_v134 : Ref sig .tc := ⟨.hbm, 212, rfl⟩
abbrev main_v135 : Ref sig .tc := ⟨.hbm, 213, rfl⟩
abbrev main_c_46 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_cst_47 : Ref sig .tc := ⟨.hbm, 229, rfl⟩
abbrev main_v150 : Ref sig .tc := ⟨.hbm, 230, rfl⟩
abbrev main_v151 : Ref sig .tc := ⟨.hbm, 231, rfl⟩

abbrev nD : Nat := 1
abbrev τ : Topo := Topo.v7x

variable {F : FTy → Type} [FloatOps F]
-- ==== Proof.Runs.lean ====
/-
  What the body's runs are stated over: the branch conditions in closed form over the points, the staging and scratch
  memrefs, and the windows' idle points.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.Tactic.Stretches
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the first point only — by arithmetic of the point. -/
theorem hcond0_2 : ∀ t : Fin cfg0.N, cond0_2 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_2, k0_cond3, e0]
    word_cmp
   : ∀ t : Fin grid0.N, cond0_2 (grid0.coords t) ↔ t.val % 8 = 0)

/-- The condition of the body's `scf.if` 3 (`k0_h4`), from the grid coordinates (the skeleton's scalar
    chain substituted). -/
abbrev cond0_3 (i : grid0.Coords) : Prop := k0_cond4 i = 1#1
/-- It holds at the points from point 1 on — by arithmetic of the point. -/
theorem hcond0_3 : ∀ t : Fin cfg0.N, cond0_3 (grid0.coords t) ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [cond0_3, k0_cond4, e0]
    word_cmp
   : ∀ t : Fin grid0.N, cond0_3 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x768x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x8 .f32 := Memref.whole cc0_scratch0
abbrev scM0_1 : Memref sig .tc .vmem S2048x8 .f32 := Memref.whole cc0_scratch1
abbrev scM0_2 : Memref sig .tc .vmem S2048x768 .bf16 := Memref.whole cc0_scratch2

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Vals.lean ====
/-
  The values the kernel body leaves in its outputs and its scratch, named over what it reads.
-/
module

public import proofs.«01_k».proof.Proof.Runs
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

section Values

variable (x0 : Vec F S2048x768 .f32) (x1 : Vec F S8x768 .f32) (x2 : Vec F S1x1 .f32)

/-- The router's probabilities, token by expert. -/
def probsK : FVec F S2048x8 .f32 := k0_pay3 x0 x1 x2
/-- The lane numbers and the row numbers of a token-by-expert array. -/
def laneK : IVec S2048x8 32 := iota .tc S2048x8 32 [1] iota_S2048x8_d1_w32
def rowK : IVec S2048x8 32 := iota .tc S2048x8 32 [0] iota_S2048x8_d0_w32
/-- The mask of each token's two experts. -/
def maskK : FVec F S2048x8 .f32 := k0_pay7 laneK (k0_pay5 x0 x1 x2) (k0_pay6 x0 x1 x2)
/-- The first six doubling steps of the running count. -/
def cum6K : FVec F S2048x8 .f32 := k0_pay8 laneK (k0_pay5 x0 x1 x2) (k0_pay6 x0 x1 x2)
/-- The mask less the assignments past the capacity. -/
def keepK : FVec F S2048x8 .f32 := k0_pay10 (maskK x0 x1 x2) rowK (cum6K x0 x1 x2)
/-- The slot of each kept assignment, -1 where there is none. -/
def posK : FVec F S2048x8 .f32 := k0_pay12 (k0_pay11 (maskK x0 x1 x2) rowK (cum6K x0 x1 x2))
/-- The combine weight of each kept assignment. -/
def cfK : FVec F S2048x8 .f32 := k0_pay13 (probsK x0 x1 x2) (keepK x0 x1 x2)
/-- The tokens as the dispatch reads them. -/
def xbK : FVec F S2048x768 .bf16 := k0_pay16 x0
/-- The three scalars. -/
def auxK : FVec F S1x1 .f32 := k0_pay14 (probsK x0 x1 x2) (maskK x0 x1 x2)
def entK : FVec F S1x1 .f32 := k0_pay15 (probsK x0 x1 x2)
def ovfK : FVec F S1x1 .f32 := k0_pay17 (maskK x0 x1 x2) (keepK x0 x1 x2)

/-- One expert's contribution to the output, from the slots, the weights, the tokens and the expert's matrices. -/
def contribK (i : grid0.Coords) (pos cf : Vec F S2048x8 .f32) (xb : Vec F S2048x768 .bf16) (x3 x4 : Vec F S1x1536x768 .f32)
    (x5 : Vec F S1x768x1536 .f32) : FVec F S2048x768 .f32 :=
  k0_pay1 (k0_pay19 i cf) (k0_pay20 i pos) (k0_pay21 i pos xb) (k0_pay22 x3) (k0_pay23 x4) (k0_pay24 x5)

/-- The output after an expert's contribution is added to what it held. -/
def stepK (i : grid0.Coords) (pos cf : Vec F S2048x8 .f32) (xb : Vec F S2048x768 .bf16) (x3 x4 : Vec F S1x1536x768 .f32)
    (x5 : Vec F S1x768x1536 .f32) (o : Vec F S2048x768 .f32) : FVec F S2048x768 .f32 :=
  k0_pay2 (k0_pay19 i cf) (k0_pay20 i pos) (k0_pay21 i pos xb) (k0_pay22 x3) (k0_pay23 x4) (k0_pay24 x5) o

end Values

/-! ## Loads and stores through a whole rectangle -/

section Whole

variable {S : Shape} {e : EltTy} {κ : Kind} {sp : Space}

/-- The zero offsets of rank 2 and of rank 3. -/
theorem zero2 : (![0, 0] : Fin 2 → ℕ) = fun _ => 0 := by decide
theorem zero3 : (![0, 0, 0] : Fin 3 → ℕ) = fun _ => 0 := by decide

/-- A load of the whole of a view reads its contents. -/
theorem readAt_all (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f := by
  rw [View.readAt_eq_ld, View.ld_unit_zero h]

/-- One store of the whole of a view leaves the stored contents. -/
theorem read_all (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩), View.canon_unit_zero h]

end Whole

end Cert.KernelIdeal.Hand

end
-- ==== Proof.RunA.lean ====
/-
  The body run at the first point.
-/
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (the router's branch and the output's first store taken, the later one not): from the
    inputs at their contents it leaves the scratch at the slots, weights and tokens, the output at the first expert's
    contribution, and the three scalars. -/
theorem kernelRun0_A (c : Dev nD) (i : grid0.Coords) (arg1 : Memref sig .tc .vmem S2048x768 .f32) (harg1 : arg1.IsWhole) (arg2 : Memref sig .tc .vmem S8x768 .f32) (harg2 : arg2.IsWhole) (arg3 : Memref sig .tc .vmem S1x1 .f32) (harg3 : arg3.IsWhole) (arg4 : Memref sig .tc .vmem S1x1536x768 .f32) (harg4 : arg4.IsWhole) (arg5 : Memref sig .tc .vmem S1x1536x768 .f32) (harg5 : arg5.IsWhole) (arg6 : Memref sig .tc .vmem S1x768x1536 .f32) (harg6 : arg6.IsWhole) (arg7 : Memref sig .tc .vmem S2048x768 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S2048x8 .f32) (harg11 : arg11.IsWhole) (arg12 : Memref sig .tc .vmem S2048x8 .f32) (harg12 : arg12.IsWhole) (arg13 : Memref sig .tc .vmem S2048x768 .bf16) (harg13 : arg13.IsWhole) (hc0 : cond0_0 i) (hc1 : cond0_1 i) (hc2 : cond0_2 i) (hc3 : ¬cond0_3 i)
    (x0 : Vec F S2048x768 .f32) (x1 : Vec F S8x768 .f32) (x2 : Vec F S1x1 .f32) (x3 : Vec F S1x1536x768 .f32) (x4 : Vec F S1x1536x768 .f32) (x5 : Vec F S1x768x1536 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (contribK i (posK x0 x1 x2) (cfK x0 x1 x2) (xbK x0) x3 x4 x5) ∗ owns (c : Thread nD τ) arg8 fullShare (auxK x0 x1 x2) ∗ owns (c : Thread nD τ) arg9 fullShare (entK x0 x1 x2) ∗ owns (c : Thread nD τ) arg10 fullShare (ovfK x0 x1 x2) ∗ owns (c : Thread nD τ) arg11 fullShare (posK x0 x1 x2) ∗ owns (c : Thread nD τ) arg12 fullShare (cfK x0 x1 x2) ∗ owns (c : Thread nD τ) arg13 fullShare (xbK x0)) -∗ K ⟨⟩))
          ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__moe_kernel_eq_skeleton]; unfold cc0__moe_kernel_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    have e1 : View.readAt (Elt F) arg1.view (Rect.unit ![0, 0] ![2048, 768] inb_S2048x768_S2048x768_0_0).toLoadRect (harg1.unread x0) = x0 :=
      (readAt_all (S := S2048x768) _ _ zero2 _).trans (harg1.read_unread _)
    have e2 : View.readAt (Elt F) arg2.view (Rect.unit ![0, 0] ![8, 768] inb_S8x768_S8x768_0_0).toLoadRect (harg2.unread x1) = x1 :=
      (readAt_all (S := S8x768) _ _ zero2 _).trans (harg2.read_unread _)
    have e3 : View.readAt (Elt F) arg3.view (Rect.unit ![0, 0] ![1, 1] inb_S1x1_S1x1_0_0).toLoadRect (harg3.unread x2) = x2 :=
      (readAt_all (S := S1x1) _ _ zero2 _).trans (harg3.read_unread _)
    have e4 : View.readAt (Elt F) arg4.view (Rect.unit ![0, 0, 0] ![1, 1536, 768] inb_S1x1536x768_S1x1536x768_0_0_0).toLoadRect (harg4.unread x3) = x3 :=
      (readAt_all (S := S1x1536x768) _ _ zero3 _).trans (harg4.read_unread _)
    have e5 : View.readAt (Elt F) arg5.view (Rect.unit ![0, 0, 0] ![1, 1536, 768] inb_S1x1536x768_S1x1536x768_0_0_0).toLoadRect (harg5.unread x4) = x4 :=
      (readAt_all (S := S1x1536x768) _ _ zero3 _).trans (harg5.read_unread _)
    have e6 : View.readAt (Elt F) arg6.view (Rect.unit ![0, 0, 0] ![1, 768, 1536] inb_S1x768x1536_S1x768x1536_0_0_0).toLoadRect (harg6.unread x5) = x5 :=
      (readAt_all (S := S1x768x1536) _ _ zero3 _).trans (harg6.read_unread _)
    have c11 : ∀ w : Vec F S2048x8 .f32, arg11.view.readCov [⟨Rect.unit ![0, 0] ![2048, 8] inb_S2048x8_S2048x8_0_0, w⟩]
        (Rect.unit ![0, 0] ![2048, 8] inb_S2048x8_S2048x8_0_0).toLoadRect = w :=
      fun w => View.readCov_unit_zero (S := S2048x8) arg11.view zero2 _ w
    have c12 : ∀ w : Vec F S2048x8 .f32, arg12.view.readCov [⟨Rect.unit ![0, 0] ![2048, 8] inb_S2048x8_S2048x8_0_0, w⟩]
        (Rect.unit ![0, 0] ![2048, 8] inb_S2048x8_S2048x8_0_0).toLoadRect = w :=
      fun w => View.readCov_unit_zero (S := S2048x8) arg12.view zero2 _ w
    have c13 : ∀ w : Vec F S2048x768 .bf16, arg13.view.readCov [⟨Rect.unit ![0, 0] ![2048, 768] inb_S2048x768_S2048x768_0_0, w⟩]
        (Rect.unit ![0, 0] ![2048, 768] inb_S2048x768_S2048x768_0_0).toLoadRect = w :=
      fun w => View.readCov_unit_zero (S := S2048x768) arg13.view zero2 _ w
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; sl_open_run
      refine (read_all _ _ zero2 _ _).trans ?_
      simp only [e1, e2, e3, e4, e5, e6, c11, c12, c13]
      rfl
    isplitl [H7]
    · iexists _; isplitr; swap; · iexact H7
      ipureintro; sl_open_run
      refine (read_all _ _ zero2 _ _).trans ?_
      simp only [e1, e2, e3, e4, e5, e6]
      rfl
    isplitl [H8]
    · iexists _; isplitr; swap; · iexact H8
      ipureintro; sl_open_run
      refine (read_all _ _ zero2 _ _).trans ?_
      simp only [e1, e2, e3, e4, e5, e6]
      rfl
    isplitl [H9]
    · iexists _; isplitr; swap; · iexact H9
      ipureintro; sl_open_run
      refine (read_all _ _ zero2 _ _).trans ?_
      simp only [e1, e2, e3, e4, e5, e6]
      rfl
    isplitl [HS0]
    · iexists _; isplitr; swap; · iexact HS0
      ipureintro; sl_open_run
      refine (read_all _ _ zero2 _ _).trans ?_
      simp only [e1, e2, e3, e4, e5, e6]
      rfl
    isplitl [HS1]
    · iexists _; isplitr; swap; · iexact HS1
      ipureintro; sl_open_run
      refine (read_all _ _ zero2 _ _).trans ?_
      simp only [e1, e2, e3, e4, e5, e6]
      rfl
    iexists _; isplitr; swap; · iexact HS2
    ipureintro; sl_open_run
    refine (read_all _ _ zero2 _ _).trans ?_
    simp only [e1, e2, e3, e4, e5, e6]
    rfl

end Cert.KernelIdeal.Hand

end
-- ==== Proof.RunB.lean ====
/-
  The body run at a later point.
-/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point (only the output's later store taken): it adds the point's contribution to the output and
    leaves everything else as it found it. -/
theorem kernelRun0_B (c : Dev nD) (i : grid0.Coords) (arg1 : Memref sig .tc .vmem S2048x768 .f32) (harg1 : arg1.IsWhole) (arg2 : Memref sig .tc .vmem S8x768 .f32) (harg2 : arg2.IsWhole) (arg3 : Memref sig .tc .vmem S1x1 .f32) (harg3 : arg3.IsWhole) (arg4 : Memref sig .tc .vmem S1x1536x768 .f32) (harg4 : arg4.IsWhole) (arg5 : Memref sig .tc .vmem S1x1536x768 .f32) (harg5 : arg5.IsWhole) (arg6 : Memref sig .tc .vmem S1x768x1536 .f32) (harg6 : arg6.IsWhole) (arg7 : Memref sig .tc .vmem S2048x768 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S2048x8 .f32) (harg11 : arg11.IsWhole) (arg12 : Memref sig .tc .vmem S2048x8 .f32) (harg12 : arg12.IsWhole) (arg13 : Memref sig .tc .vmem S2048x768 .bf16) (harg13 : arg13.IsWhole) (hc0 : ¬cond0_0 i) (hc1 : ¬cond0_1 i) (hc2 : ¬cond0_2 i) (hc3 : cond0_3 i)
    (x0 : Vec F S2048x768 .f32) (x1 : Vec F S8x768 .f32) (x2 : Vec F S1x1 .f32) (x3 : Vec F S1x1536x768 .f32) (x4 : Vec F S1x1536x768 .f32) (x5 : Vec F S1x768x1536 .f32)
    (o : Vec F S2048x768 .f32) (y7 y8 y9 : Vec F S1x1 .f32) (s0 s1 : Vec F S2048x8 .f32) (s2 : Vec F S2048x768 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare o ∗ owns (c : Thread nD τ) arg8 fullShare y7 ∗ owns (c : Thread nD τ) arg9 fullShare y8 ∗ owns (c : Thread nD τ) arg10 fullShare y9 ∗ owns (c : Thread nD τ) arg11 fullShare s0 ∗ owns (c : Thread nD τ) arg12 fullShare s1 ∗ owns (c : Thread nD τ) arg13 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stepK i s0 s1 s2 x3 x4 x5 o) ∗ owns (c : Thread nD τ) arg8 fullShare y7 ∗ owns (c : Thread nD τ) arg9 fullShare y8 ∗ owns (c : Thread nD τ) arg10 fullShare y9 ∗ owns (c : Thread nD τ) arg11 fullShare s0 ∗ owns (c : Thread nD τ) arg12 fullShare s1 ∗ owns (c : Thread nD τ) arg13 fullShare s2) -∗ K ⟨⟩))
          ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13) K := by
    intro E K
    simp only [cc0__moe_kernel_eq_skeleton]; unfold cc0__moe_kernel_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0 | sl_exact hc1 | sl_exact hc2 | sl_exact hc3)
    sl_step
    have e1 : View.readAt (Elt F) arg1.view (Rect.unit ![0, 0] ![2048, 768] inb_S2048x768_S2048x768_0_0).toLoadRect (harg1.unread x0) = x0 :=
      (readAt_all (S := S2048x768) _ _ zero2 _).trans (harg1.read_unread _)
    have e2 : View.readAt (Elt F) arg2.view (Rect.unit ![0, 0] ![8, 768] inb_S8x768_S8x768_0_0).toLoadRect (harg2.unread x1) = x1 :=
      (readAt_all (S := S8x768) _ _ zero2 _).trans (harg2.read_unread _)
    have e3 : View.readAt (Elt F) arg3.view (Rect.unit ![0, 0] ![1, 1] inb_S1x1_S1x1_0_0).toLoadRect (harg3.unread x2) = x2 :=
      (readAt_all (S := S1x1) _ _ zero2 _).trans (harg3.read_unread _)
    have e4 : View.readAt (Elt F) arg4.view (Rect.unit ![0, 0, 0] ![1, 1536, 768] inb_S1x1536x768_S1x1536x768_0_0_0).toLoadRect (harg4.unread x3) = x3 :=
      (readAt_all (S := S1x1536x768) _ _ zero3 _).trans (harg4.read_unread _)
    have e5 : View.readAt (Elt F) arg5.view (Rect.unit ![0, 0, 0] ![1, 1536, 768] inb_S1x1536x768_S1x1536x768_0_0_0).toLoadRect (harg5.unread x4) = x4 :=
      (readAt_all (S := S1x1536x768) _ _ zero3 _).trans (harg5.read_unread _)
    have e6 : View.readAt (Elt F) arg6.view (Rect.unit ![0, 0, 0] ![1, 768, 1536] inb_S1x768x1536_S1x768x1536_0_0_0).toLoadRect (harg6.unread x5) = x5 :=
      (readAt_all (S := S1x768x1536) _ _ zero3 _).trans (harg6.read_unread _)
    have e7 : View.readAt (Elt F) arg7.view (Rect.unit ![0, 0] ![2048, 768] inb_S2048x768_S2048x768_0_0).toLoadRect (harg7.unread o) = o :=
      (readAt_all (S := S2048x768) _ _ zero2 _).trans (harg7.read_unread _)
    have e11 : View.readAt (Elt F) arg11.view (Rect.unit ![0, 0] ![2048, 8] inb_S2048x8_S2048x8_0_0).toLoadRect (harg11.unread s0) = s0 :=
      (readAt_all (S := S2048x8) _ _ zero2 _).trans (harg11.read_unread _)
    have e12 : View.readAt (Elt F) arg12.view (Rect.unit ![0, 0] ![2048, 8] inb_S2048x8_S2048x8_0_0).toLoadRect (harg12.unread s1) = s1 :=
      (readAt_all (S := S2048x8) _ _ zero2 _).trans (harg12.read_unread _)
    have e13 : View.readAt (Elt F) arg13.view (Rect.unit ![0, 0] ![2048, 768] inb_S2048x768_S2048x768_0_0).toLoadRect (harg13.unread s2) = s2 :=
      (readAt_all (S := S2048x768) _ _ zero2 _).trans (harg13.read_unread _)
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; sl_open_run
      refine (read_all _ _ zero2 _ _).trans ?_
      simp only [e1, e2, e3, e4, e5, e6, e7, e11, e12, e13]
      rfl
    isplitl [H7]
    · iexists _; isplitr; swap; · iexact H7
      ipureintro; exact harg8.read_unread _
    isplitl [H8]
    · iexists _; isplitr; swap; · iexact H8
      ipureintro; exact harg9.read_unread _
    isplitl [H9]
    · iexists _; isplitr; swap; · iexact H9
      ipureintro; exact harg10.read_unread _
    isplitl [H10]
    · iexists _; isplitr; swap; · iexact H10
      ipureintro; exact harg11.read_unread _
    isplitl [H11]
    · iexists _; isplitr; swap; · iexact H11
      ipureintro; exact harg12.read_unread _
    iexists _; isplitr; swap; · iexact H12
    ipureintro; exact harg13.read_unread _

end Cert.KernelIdeal.Hand

end
-- ==== Proof.KFrame.lean ====
/-
  The kernel's region: what its windows and its scratch hold point by point, the body's triple at a generic point, the
  launch, and the frame.
-/
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents, point by point -/

/-- The first point. -/
abbrev t00 : Fin cfg0.N := ⟨0, Nat.lt_of_lt_of_eq (by decide : 0 < 8) N_0.symm⟩

/-- The slots, the kept weights and the narrowed tokens the first point leaves in the scratch. -/
def posV (c : Dev nD) : Vec F S2048x8 .f32 := posK (iblk m c 0 t00) (iblk m c 1 t00) (iblk m c 2 t00)
def cfV (c : Dev nD) : Vec F S2048x8 .f32 := cfK (iblk m c 0 t00) (iblk m c 1 t00) (iblk m c 2 t00)
def xbV (c : Dev nD) : Vec F S2048x768 .bf16 := xbK (iblk m c 0 t00)

/-- The three scalars the first point leaves. -/
def auxV (c : Dev nD) : Vec F S1x1 .f32 := auxK (iblk m c 0 t00) (iblk m c 1 t00) (iblk m c 2 t00)
def entV (c : Dev nD) : Vec F S1x1 .f32 := entK (iblk m c 0 t00) (iblk m c 1 t00) (iblk m c 2 t00)
def ovfV (c : Dev nD) : Vec F S1x1 .f32 := ovfK (iblk m c 0 t00) (iblk m c 1 t00) (iblk m c 2 t00)

/-- The output after each point: the first point's contribution, then each later point's added to it. -/
def outV (c : Dev nD) : (n : ℕ) → n < cfg0.N → Vec F S2048x768 .f32
  | 0, h => contribK (grid0.coords ⟨0, h⟩) (posV m c) (cfV m c) (xbV m c) (iblk m c 3 ⟨0, h⟩) (iblk m c 4 ⟨0, h⟩) (iblk m c 5 ⟨0, h⟩)
  | n + 1, h => stepK (grid0.coords ⟨n + 1, h⟩) (posV m c) (cfV m c) (xbV m c) (iblk m c 3 ⟨n + 1, h⟩) (iblk m c 4 ⟨n + 1, h⟩) (iblk m c 5 ⟨n + 1, h⟩)
      (outV c n (Nat.lt_of_succ_lt h))

/-- The invariant: before the first point the scratch at anything; after it, at what the first point left. -/
def PhiK (c : Dev nD) : ℕ → sProp 𝕄
  | 0 => Pipeline.ΦA spec0 c
  | _ + 1 => iprop(iprop(owns (c : Thread nD τ) scM0_0 fullShare (posV m c) ∗ owns (c : Thread nD τ) scM0_1 fullShare (cfV m c) ∗ owns (c : Thread nD τ) scM0_2 fullShare (xbV m c)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV m c t.val t.isLt
    | ⟨7, _⟩ => auxV m c
    | ⟨8, _⟩ => entV m c
    | ⟨9, _⟩ => ovfV m c
  Φ t := PhiK m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outV m c t.val t.isLt := by dsimp only [dats]
theorem after0_7 (c : Dev nD) (t : Fin cfg0.N) : (dats m 0 c).after 7 t = auxV m c := by dsimp only [dats]
theorem after0_8 (c : Dev nD) (t : Fin cfg0.N) : (dats m 0 c).after 8 t = entV m c := by dsimp only [dats]
theorem after0_9 (c : Dev nD) (t : Fin cfg0.N) : (dats m 0 c).after 9 t = ovfV m c := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The output windows' idle points -/

/-- The output is stored at every point. -/
theorem live0_6 (t : Fin cfg0.N) : cfg0.idle 6 (grid0.coords t) = false := by
  show (!(k0_cond3 (grid0.coords t) == 1#1) && !(k0_cond4 (grid0.coords t) == 1#1)) = false
  have hN : t.val < 8 := lt_of_lt_of_eq t.isLt (show cfg0.N = 8 from N_0)
  by_cases h : t.val % 8 = 0
  · rw [show k0_cond3 (grid0.coords t) = 1#1 from (hcond0_2 t).mpr h]; rfl
  · rw [show k0_cond4 (grid0.coords t) = 1#1 from (hcond0_3 t).mpr (by omega)]
    simp

/-- The scalars are stored at the first point only. -/
theorem cond2_first (t : Fin cfg0.N) (h : t.val % 8 = 0) : (!(k0_cond2 (grid0.coords t) == 1#1)) = false := by
  rw [show k0_cond2 (grid0.coords t) = 1#1 from (hcond0_1 t).mpr h]; rfl
theorem cond2_later (t : Fin cfg0.N) (h : ¬ t.val % 8 = 0) : (!(k0_cond2 (grid0.coords t) == 1#1)) = true := by
  have : ¬ k0_cond2 (grid0.coords t) = 1#1 := fun e => h ((hcond0_1 t).mp e)
  simp [this]
theorem live0_7 (t : Fin cfg0.N) (h : t.val % 8 = 0) : cfg0.idle 7 (grid0.coords t) = false := cond2_first t h
theorem idle0_7 (t : Fin cfg0.N) (h : ¬ t.val % 8 = 0) : cfg0.idle 7 (grid0.coords t) = true := cond2_later t h
theorem live0_8 (t : Fin cfg0.N) (h : t.val % 8 = 0) : cfg0.idle 8 (grid0.coords t) = false := cond2_first t h
theorem idle0_8 (t : Fin cfg0.N) (h : ¬ t.val % 8 = 0) : cfg0.idle 8 (grid0.coords t) = true := cond2_later t h
theorem live0_9 (t : Fin cfg0.N) (h : t.val % 8 = 0) : cfg0.idle 9 (grid0.coords t) = false := cond2_first t h
theorem idle0_9 (t : Fin cfg0.N) (h : ¬ t.val % 8 = 0) : cfg0.idle 9 (grid0.coords t) = true := cond2_later t h

/-- An output's buffer is fresh at the first point and past the last. -/
theorem fresh0_6 (n : ℕ) (hn : n ≤ cfg0.N) : cfg0.fresh 6 n = decide (n % 8 = 0) :=
  cfg0.fresh_tab 6 (fun n => decide (n % 8 = 0)) rfl (fun t => by
    have hN : t.val < 8 := lt_of_lt_of_eq t.isLt (show cfg0.N = 8 from N_0)
    by_cases h7 : t.val % 8 = 7
    · rw [(flush0_6 t).mpr h7, Bool.true_or]; exact decide_eq_true (by omega)
    · rw [show (cfg0.win 6).flush t = false from Bool.eq_false_iff.mpr fun h => h7 ((flush0_6 t).mp h), Bool.false_or]
      by_cases h0 : t.val % 8 = 0
      · rw [live0_6 t, Bool.false_and]; exact decide_eq_false (by omega)
      · rw [decide_eq_false h0, Bool.and_false]; exact decide_eq_false (by omega)) n hn
theorem fresh0_7 (n : ℕ) (hn : n ≤ cfg0.N) : cfg0.fresh 7 n = decide (n % 8 = 0) :=
  cfg0.fresh_tab 7 (fun n => decide (n % 8 = 0)) rfl (fun t => by
    have hN : t.val < 8 := lt_of_lt_of_eq t.isLt (show cfg0.N = 8 from N_0)
    by_cases h7 : t.val % 8 = 7
    · rw [(flush0_7 t).mpr h7, Bool.true_or]; exact decide_eq_true (by omega)
    · rw [show (cfg0.win 7).flush t = false from Bool.eq_false_iff.mpr fun h => h7 ((flush0_7 t).mp h), Bool.false_or]
      by_cases h0 : t.val % 8 = 0
      · rw [live0_7 t h0, Bool.false_and]; exact decide_eq_false (by omega)
      · rw [decide_eq_false h0, Bool.and_false]; exact decide_eq_false (by omega)) n hn
theorem fresh0_8 (n : ℕ) (hn : n ≤ cfg0.N) : cfg0.fresh 8 n = decide (n % 8 = 0) :=
  cfg0.fresh_tab 8 (fun n => decide (n % 8 = 0)) rfl (fun t => by
    have hN : t.val < 8 := lt_of_lt_of_eq t.isLt (show cfg0.N = 8 from N_0)
    by_cases h7 : t.val % 8 = 7
    · rw [(flush0_8 t).mpr h7, Bool.true_or]; exact decide_eq_true (by omega)
    · rw [show (cfg0.win 8).flush t = false from Bool.eq_false_iff.mpr fun h => h7 ((flush0_8 t).mp h), Bool.false_or]
      by_cases h0 : t.val % 8 = 0
      · rw [live0_8 t h0, Bool.false_and]; exact decide_eq_false (by omega)
      · rw [decide_eq_false h0, Bool.and_false]; exact decide_eq_false (by omega)) n hn
theorem fresh0_9 (n : ℕ) (hn : n ≤ cfg0.N) : cfg0.fresh 9 n = decide (n % 8 = 0) :=
  cfg0.fresh_tab 9 (fun n => decide (n % 8 = 0)) rfl (fun t => by
    have hN : t.val < 8 := lt_of_lt_of_eq t.isLt (show cfg0.N = 8 from N_0)
    by_cases h7 : t.val % 8 = 7
    · rw [(flush0_9 t).mpr h7, Bool.true_or]; exact decide_eq_true (by omega)
    · rw [show (cfg0.win 9).flush t = false from Bool.eq_false_iff.mpr fun h => h7 ((flush0_9 t).mp h), Bool.false_or]
      by_cases h0 : t.val % 8 = 0
      · rw [live0_9 t h0, Bool.false_and]; exact decide_eq_false (by omega)
      · rw [decide_eq_false h0, Bool.and_false]; exact decide_eq_false (by omega)) n hn

/-- After the first point an output's buffer holds what the point before left. -/
theorem before0_6 (c : Dev nD) (t : Fin cfg0.N) (h : t.val ≠ 0) (d) :
    (dats m 0 c).before 6 t d = outV m c (t.val - 1) (by omega) := by
  have hN : t.val < 8 := lt_of_lt_of_eq t.isLt (show cfg0.N = 8 from N_0)
  rw [(dats m 0 c).before_out_traj 6 rfl (fun _ _ => rfl) (fun t _ hi _ => absurd (hi.symm.trans (live0_6 t)) Bool.noConfusion) t.val t rfl d,
    fresh0_6 t.val (Nat.le_of_lt t.isLt), decide_eq_false (by omega), if_neg Bool.false_ne_true, after0_6]
theorem before0_7 (c : Dev nD) (t : Fin cfg0.N) (h : t.val ≠ 0) (d) :
    (dats m 0 c).before 7 t d = auxV m c := by
  have hN : t.val < 8 := lt_of_lt_of_eq t.isLt (show cfg0.N = 8 from N_0)
  rw [(dats m 0 c).before_out_traj 7 rfl (fun _ _ => rfl) (fun t _ hi _ => by rw [after0_7, after0_7]) t.val t rfl d,
    fresh0_7 t.val (Nat.le_of_lt t.isLt), decide_eq_false (by omega), if_neg Bool.false_ne_true, after0_7]
theorem before0_8 (c : Dev nD) (t : Fin cfg0.N) (h : t.val ≠ 0) (d) :
    (dats m 0 c).before 8 t d = entV m c := by
  have hN : t.val < 8 := lt_of_lt_of_eq t.isLt (show cfg0.N = 8 from N_0)
  rw [(dats m 0 c).before_out_traj 8 rfl (fun _ _ => rfl) (fun t _ hi _ => by rw [after0_8, after0_8]) t.val t rfl d,
    fresh0_8 t.val (Nat.le_of_lt t.isLt), decide_eq_false (by omega), if_neg Bool.false_ne_true, after0_8]
theorem before0_9 (c : Dev nD) (t : Fin cfg0.N) (h : t.val ≠ 0) (d) :
    (dats m 0 c).before 9 t d = ovfV m c := by
  have hN : t.val < 8 := lt_of_lt_of_eq t.isLt (show cfg0.N = 8 from N_0)
  rw [(dats m 0 c).before_out_traj 9 rfl (fun _ _ => rfl) (fun t _ hi _ => by rw [after0_9, after0_9]) t.val t rfl d,
    fresh0_9 t.val (Nat.le_of_lt t.isLt), decide_eq_false (by omega), if_neg Bool.false_ne_true, after0_9]

/-- What an idle scalar window is left at, written back or not. -/
theorem leaves0_7 (c : Dev nD) (t : Fin cfg0.N) (h : ¬ t.val % 8 = 0) :
    owns (c : Thread nD τ) (ms0_7 t) fullShare (auxV m c) ⊢ (dats m 0 c).leavesExact 7 t := by
  have h0 : t.val ≠ 0 := fun e => h (by omega)
  by_cases h7 : t.val % 8 = 7
  · have e : (dats m 0 c).leavesExact 7 t = owns (c : Thread nD τ) (ms0_7 t) fullShare (auxV m c) := by
      unfold Dat.leavesExact; rw [idle0_7 t h, (flush0_7 t).mpr h7, after0_7]
    rw [e]
  · have hf : (cfg0.win 7).flush t = false := Bool.eq_false_iff.mpr fun e => h7 ((flush0_7 t).mp e)
    rw [Dat.leavesExact_idle _ 7 t (idle0_7 t h) hf]
    iintro H
    iexists auxV m c
    rw [before0_7 m c t h0]
    iexact H
theorem leaves0_8 (c : Dev nD) (t : Fin cfg0.N) (h : ¬ t.val % 8 = 0) :
    owns (c : Thread nD τ) (ms0_8 t) fullShare (entV m c) ⊢ (dats m 0 c).leavesExact 8 t := by
  have h0 : t.val ≠ 0 := fun e => h (by omega)
  by_cases h7 : t.val % 8 = 7
  · have e : (dats m 0 c).leavesExact 8 t = owns (c : Thread nD τ) (ms0_8 t) fullShare (entV m c) := by
      unfold Dat.leavesExact; rw [idle0_8 t h, (flush0_8 t).mpr h7, after0_8]
    rw [e]
  · have hf : (cfg0.win 8).flush t = false := Bool.eq_false_iff.mpr fun e => h7 ((flush0_8 t).mp e)
    rw [Dat.leavesExact_idle _ 8 t (idle0_8 t h) hf]
    iintro H
    iexists entV m c
    rw [before0_8 m c t h0]
    iexact H
theorem leaves0_9 (c : Dev nD) (t : Fin cfg0.N) (h : ¬ t.val % 8 = 0) :
    owns (c : Thread nD τ) (ms0_9 t) fullShare (ovfV m c) ⊢ (dats m 0 c).leavesExact 9 t := by
  have h0 : t.val ≠ 0 := fun e => h (by omega)
  by_cases h7 : t.val % 8 = 7
  · have e : (dats m 0 c).leavesExact 9 t = owns (c : Thread nD τ) (ms0_9 t) fullShare (ovfV m c) := by
      unfold Dat.leavesExact; rw [idle0_9 t h, (flush0_9 t).mpr h7, after0_9]
    rw [e]
  · have hf : (cfg0.win 9).flush t = false := Bool.eq_false_iff.mpr fun e => h7 ((flush0_9 t).mp e)
    rw [Dat.leavesExact_idle _ 9 t (idle0_9 t h) hf]
    iintro H
    iexists ovfV m c
    rw [before0_9 m c t h0]
    iexact H

/-! ## The body's triple at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The first point's contribution is the output's contents after it. -/
theorem outV_zero (c : Dev nD) (t : Fin cfg0.N) (h : t.val = 0) :
    outV m c t.val t.isLt = contribK (grid0.coords t) (posV m c) (cfV m c) (xbV m c) (iblk m c 3 t) (iblk m c 4 t) (iblk m c 5 t) := by
  obtain ⟨n, hn⟩ := t; simp only at h; subst h; rfl

/-- A later point's step is the output's contents after it. -/
theorem outV_pos (c : Dev nD) (t : Fin cfg0.N) (h : t.val ≠ 0) :
    outV m c t.val t.isLt = stepK (grid0.coords t) (posV m c) (cfV m c) (xbV m c) (iblk m c 3 t) (iblk m c 4 t) (iblk m c 5 t)
      (outV m c (t.val - 1) (Nat.lt_of_le_of_lt (Nat.sub_le _ _) t.isLt)) := by
  obtain ⟨n, hn⟩ := t
  cases n with
  | zero => exact absurd rfl h
  | succ n => rfl

/-- The point whose position is 0 is the first. -/
theorem eq_t00 (t : Fin cfg0.N) (h : t.val = 0) : t = t00 := Fin.ext h

set_option maxHeartbeats 2400000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  have hp : posK (iblk m c 0 t) (iblk m c 1 t) (iblk m c 2 t) = posV m c := by rw [eq_t00 t h]; rfl
  have hcf : cfK (iblk m c 0 t) (iblk m c 1 t) (iblk m c 2 t) = cfV m c := by rw [eq_t00 t h]; rfl
  have hx : xbK (iblk m c 0 t) = xbV m c := by rw [eq_t00 t h]; rfl
  have ha : auxK (iblk m c 0 t) (iblk m c 1 t) (iblk m c 2 t) = auxV m c := by rw [eq_t00 t h]; rfl
  have he : entK (iblk m c 0 t) (iblk m c 1 t) (iblk m c 2 t) = entV m c := by rw [eq_t00 t h]; rfl
  have hv : ovfK (iblk m c 0 t) (iblk m c 1 t) (iblk m c 2 t) = ovfV m c := by rw [eq_t00 t h]; rfl
  have hN : t.val < 8 := lt_of_lt_of_eq t.isLt (show cfg0.N = 8 from N_0)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Pipeline.ΦA spec0 c from by show PhiK m c t.val = _; rw [h]; rfl, PhiA0_eq]
  rw [show (dats m 0 c).Φ t.succ = iprop(iprop(owns (c : Thread nD τ) scM0_0 fullShare (posV m c) ∗ owns (c : Thread nD τ) scM0_1 fullShare (cfV m c) ∗ owns (c : Thread nD τ) scM0_2 fullShare (xbV m c)) ∗ (∃ r, prngReg c r)) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [live0_6 t], after0_6]
  rw [show (dats m 0 c).leavesExact 7 t = owns (c : Thread nD τ) (ms0_7 t) fullShare ((dats m 0 c).after 7 t) from by
    unfold Dat.leavesExact; rw [live0_7 t (by omega)], after0_7]
  rw [show (dats m 0 c).leavesExact 8 t = owns (c : Thread nD τ) (ms0_8 t) fullShare ((dats m 0 c).after 8 t) from by
    unfold Dat.leavesExact; rw [live0_8 t (by omega)], after0_8]
  rw [show (dats m 0 c).leavesExact 9 t = owns (c : Thread nD τ) (ms0_9 t) fullShare ((dats m 0 c).after 9 t) from by
    unfold Dat.leavesExact; rw [live0_9 t (by omega)], after0_9]
  rw [outV_zero m c t h]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr (by omega)) ((hcond0_1 t).mpr (by omega)) ((hcond0_2 t).mpr (by omega)) (fun e => by have := (hcond0_3 t).mp e; omega) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  rw [hp, hcf, hx, ha, he, hv]
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2400000 in
/-- The body at a later point. -/
theorem sound_later (c : Dev nD) (t : Fin cfg0.N) (h : t.val ≠ 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have h8 : ¬ t.val % 8 = 0 := by omega
  unfold bodyPre bodyPost bodyAt0
  simp only [before0_0, before0_1, before0_2, before0_3, before0_4, before0_5, before0_6 m c t h, before0_7 m c t h, before0_8 m c t h, before0_9 m c t h]
  rw [show (dats m 0 c).owesAt () t.succ = (dats m 0 c).owesAt () t.castSucc from rfl]
  rw [show (dats m 0 c).Φ t.castSucc = iprop(iprop(owns (c : Thread nD τ) scM0_0 fullShare (posV m c) ∗ owns (c : Thread nD τ) scM0_1 fullShare (cfV m c) ∗ owns (c : Thread nD τ) scM0_2 fullShare (xbV m c)) ∗ (∃ r, prngReg c r)) from by
    show PhiK m c t.val = _
    obtain ⟨n, hn⟩ := t
    cases n with
    | zero => exact absurd rfl h
    | succ n => rfl]
  rw [show (dats m 0 c).Φ t.succ = iprop(iprop(owns (c : Thread nD τ) scM0_0 fullShare (posV m c) ∗ owns (c : Thread nD τ) scM0_1 fullShare (cfV m c) ∗ owns (c : Thread nD τ) scM0_2 fullShare (xbV m c)) ∗ (∃ r, prngReg c r)) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [live0_6 t], after0_6]
  rw [outV_pos m c t h]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun e => h8 ((hcond0_0 t).mp e)) (fun e => h8 ((hcond0_1 t).mp e)) (fun e => h8 ((hcond0_2 t).mp e)) ((hcond0_3 t).mpr (by omega)) (iblk m c 0 t) (iblk m c 1 t) (iblk m c 2 t) (iblk m c 3 t) (iblk m c 4 t) (iblk m c 5 t) (outV m c (t.val - 1) (Nat.lt_of_le_of_lt (Nat.sub_le _ _) t.isLt)) (auxV m c) (entV m c) (ovfV m c) (posV m c) (cfV m c) (xbV m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves0_7 m c t h8); iexact H7
  isplitl [H8]; · iapply (leaves0_8 m c t h8); iexact H8
  iapply (leaves0_9 m c t h8); iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · exact sound_later m c t h

/-- The body table's row at point `t`'s slots is the body on its staging memrefs. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The invariant after the last point gives the scratch back at some contents. -/
theorem PhiK_out (c : Dev nD) (n : ℕ) : PhiK m c n ⊢ (Pipeline.ΦA spec0 c : sProp 𝕄) := by
  cases n with
  | zero => exact .rfl
  | succ n =>
    rw [PhiA0_eq]
    show iprop(iprop(owns (c : Thread nD τ) scM0_0 fullShare (posV m c) ∗ owns (c : Thread nD τ) scM0_1 fullShare (cfV m c) ∗ owns (c : Thread nD τ) scM0_2 fullShare (xbV m c)) ∗ (∃ r, prngReg c r)) ⊢ _
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

set_option backward.isDefEq.respectTransparency.types false in
set_option maxHeartbeats 800000 in
/-- The launch: every final state holds the region's arrays as the proof data says, the later host lines' results computed
    from them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun c => PhiK_out m c (Fin.last cfg0.N).val)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Basics.lean ====
/-
  Reading the layout operations, the row reductions and the single-axis products at an index.
-/
module

public import proofs.«01_k».proof.Proof.Vals
public import Idealize.ShloMosaic.Lib.Pipeline.Value
public import Idealize.ShloMosaic.Lib.ValueIdx
public import Idealize.ShloMosaic.Lib.IdealHost
public import Idealize.ShloMosaic.Lib.KernelVsHost
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.ValueIdx

/-- A product with one contracted axis into a zero accumulator is the sum over that axis. -/
theorem matmul_one {sl sr so : Shape} {φ₁ φ₂ : FTy} (D : DotDims sl sr so) (n : Nat) (hr : D.contr.rank = 1)
    (hs : D.contr.size ⟨0, by omega⟩ = n) (prec : Option ContractPrecision) (lhs : FVec Ideal sl φ₁) (rhs : FVec Ideal sr φ₂)
    (j : so.Idx) (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    matmul D prec lhs rhs (constant so .f32 0x00000000#32) j = ∑ k : Fin n, (lhs (L k) : EReal) * (rhs (R k) : EReal) := by
  refine (Ideal.matmul_constant_zero_apply D prec lhs rhs j).trans ?_
  rw [← Equiv.sum_comp (contrEquiv1 D n hr hs).symm]
  exact Finset.sum_congr rfl fun k _ => by rw [hL k, hR k]

/-- The router's product: token row times expert row. -/
theorem routerDot_apply (a : FVec Ideal S2048x768 .f32) (b : FVec Ideal S8x768 .f32) (i : S2048x8.Idx) :
    matmul dot_S2048x768_S8x768_S2048x8_1_1_0_0_n_n none a b (constant S2048x8 .f32 0x00000000#32) i
      = ∑ k : Fin 768, (a (ix2 (i 0) k) : EReal) * (b (ix2 (i 1) k) : EReal) := by
  refine matmul_one dot_S2048x768_S8x768_S2048x8_1_1_0_0_n_n 768 rfl rfl none a b i _ _ (fun k => ?_) (fun k => ?_)
  · funext a
    match a with
    | ⟨0, _⟩ => rfl
    | ⟨1, _⟩ => rfl
  · funext a
    match a with
    | ⟨0, _⟩ => rfl
    | ⟨1, _⟩ => rfl

/-- One value per row laid along the row. -/
theorem colBcast_apply {α : Type} (v : S2048x1.Idx → α) (i : S2048x8.Idx) :
    broadcastTo S2048x8 v broadcasts_S2048x1_S2048x8 i = v (ix2 (i 0) (0 : Fin 1)) :=
  broadcastTo_apply v broadcasts_S2048x1_S2048x8 i (ix2 (i 0) (0 : Fin 1)) (by
    intro a
    match a with
    | ⟨0, _⟩ => rfl
    | ⟨1, _⟩ => rfl)

/-- A vector of one value per row, seen as a column. -/
theorem colCast_apply {α : Type} (v : S2048.Idx → α) (i : S2048x1.Idx) :
    shapeCast S2048x1 v shapeCasts_S2048_S2048x1 i = v (ix1 (i 0)) :=
  shapeCast_apply v shapeCasts_S2048_S2048x1 i (ix1 (i 0)) (by
    rw [Shape.rowMajor_val_one, Shape.rowMajor_val_two]
    have h1 : (i 1).val < 1 := (i 1).isLt
    show (i 0).val = (i 0).val * 1 + (i 1).val
    omega)

/-- The row maximum over the experts. -/
theorem rowMax_apply (x : FVec Ideal S2048x8 .f32) (i : S2048.Idx) :
    multiReduction .maximumf [1] S2048 x 0xFF800000#32 reduces_S2048x8_S2048 (.inl rfl) rfl i
      = (Finset.univ : Finset (Fin 8)).sup fun k => (x (ix2 (i 0) k) : EReal) := by
  refine (Ideal.multiReduction_maximumf_single x 0xFF800000#32 reduces_S2048x8_S2048 (.inl rfl) rfl i).trans ?_
  have hb : FloatOps.ofBits (F := Ideal) .f32 0xFF800000#32 = (⊥ : EReal) := by
    show Ideal.ofBits .f32 0xFF800000#32 = ⊥
    simp [Ideal.ofBits, Ideal.ieee]
  rw [hb]
  have : (x ∘ (reduces_S2048x8_S2048).lift i) = fun k : Fin 8 => x (ix2 (i 0) k) := by
    funext k
    refine congrArg x ?_
    funext a
    match a with
    | ⟨0, _⟩ => rfl
    | ⟨1, _⟩ => rfl
  rw [this]
  rfl

/-- The row sum over the experts. -/
theorem rowSum_apply (x : FVec Ideal S2048x8 .f32) (i : S2048.Idx) :
    multiReduction .add [1] S2048 x 0x00000000#32 reduces_S2048x8_S2048 (.inl rfl) rfl i
      = ∑ k : Fin 8, (x (ix2 (i 0) k) : EReal) := by
  refine (Ideal.multiReduction_add_single x 0x00000000#32 reduces_S2048x8_S2048 (.inl rfl) rfl i).trans ?_
  refine Finset.sum_congr rfl fun k _ => congrArg x ?_
  funext a
  match a with
  | ⟨0, _⟩ => rfl
  | ⟨1, _⟩ => rfl

end Cert.KernelIdeal.Hand
-- ==== Proof.Router.lean ====
/-
  The router: the kernel's probabilities are the reference's.
-/
module

public import proofs.«01_k».proof.Proof.Basics
public import proofs.«01_k».proof.Proof.Gen.ReferenceIdeal.Read

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-- The softmax of one row of logits, read at one expert. -/
def softmax8 (l : Fin 8 → EReal) (e : Fin 8) : EReal :=
  Ideal.div (Ideal.exp (l e - Finset.univ.sup l)) (∑ k : Fin 8, Ideal.exp (l k - Finset.univ.sup l))

/-- The temperature as both programs clip it. -/
def clipT (t : EReal) : EReal :=
  min (Ideal.ofBits .f32 0x40A00000#32) (max (Ideal.ofBits .f32 0x3DCCCCCD#32) t)

/-- One logit: the product over the features, divided by the clipped temperature. -/
def logit (x0 : FVec Ideal Cert.ReferenceIdeal.S1x2048x768 .f32) (x1 : FVec Ideal S8x768 .f32)
    (x2 : FVec Ideal Cert.ReferenceIdeal.S1 .f32) (t : Fin 2048) (e : Fin 8) : EReal :=
  Ideal.div (∑ k : Fin 768, (x0 (ix3 (0 : Fin 1) t k) : EReal) * (x1 (ix2 e k) : EReal)) (clipT (x2 (ix1 (0 : Fin 1))))

variable (x0 : FVec Ideal Cert.ReferenceIdeal.S1x2048x768 .f32) (x1 : FVec Ideal S8x768 .f32)
  (x2 : FVec Ideal Cert.ReferenceIdeal.S1 .f32)

/-- The reference's reshaped tokens at an index. -/
theorem v0_apply (i : S2048x768.Idx) : val_main_v0 (F := Ideal) x0 i = x0 (ix3 (0 : Fin 1) (i 0) (i 1)) := by
  rw [val_main_v0_apply]
  refine congrArg x0 (funext fun a => Fin.ext ?_)
  have h0 : (i 0).val < 2048 := (i 0).isLt
  have h1 : (i 1).val < 768 := (i 1).isLt
  match a with
  | ⟨0, _⟩ => rfl
  | ⟨1, _⟩ =>
    show ((i 0).val * 768 + (i 1).val) / 768 % 2048 = (i 0).val
    omega
  | ⟨2, _⟩ =>
    show ((i 0).val * 768 + (i 1).val) % 768 = (i 1).val
    omega

/-- The reference's logits. -/
theorem ref_logit (i : S2048x8.Idx) : val_main_v6 (F := Ideal) x0 x1 x2 i = logit x0 x1 x2 (i 0) (i 1) := by
  rw [val_main_v6_apply, val_main_v3_apply, val_main_v5_apply, val_main_v4_apply, val_main_v1_apply]
  show Ideal.div _ _ = Ideal.div _ _
  have hx : (idx_main_v4 (idx_main_v5 i)) = ix1 (0 : Fin 1) := by
    funext a
    match a with
    | ⟨0, _⟩ => rfl
  refine congrArg₂ Ideal.div (Finset.sum_congr rfl fun k _ => ?_) ?_
  · rw [v0_apply, val_main_v2_apply]
    refine congrArg₂ (fun p q : EReal => p * q) rfl (congrArg x1 ?_)
    funext a
    match a with
    | ⟨0, _⟩ => rfl
    | ⟨1, _⟩ => rfl
  · rw [hx, val_main_call0_v4_apply, val_main_call0_v2_apply, val_main_call0_v1_apply]
    rfl

/-- The reference's probabilities. -/
theorem ref_probs (i : S2048x8.Idx) : val_main_v17 (F := Ideal) x0 x1 x2 i = softmax8 (logit x0 x1 x2 (i 0)) (i 1) := by
  have hmax : ∀ t : Fin 2048, val_main_v9 (F := Ideal) x0 x1 x2 (ix1 t) = Finset.univ.sup (logit x0 x1 x2 t) := by
    intro t
    rw [val_main_v9_apply, val_main_v8_apply]
    have hb : val_main_cst_2 (F := Ideal) (idx_main_v8 (ix1 t)) = (⊥ : EReal) := by
      show Ideal.ofBits .f32 0xFF800000#32 = ⊥
      simp [Ideal.ofBits, Ideal.ieee]
    rw [hb]
    have h7 : val_main_v7 (F := Ideal) x0 x1 x2
        = multiReduction (F := Ideal) (φ := .f32) (s := S2048x8) .maximumf [1] S2048 (val_main_v6 (F := Ideal) x0 x1 x2) 0xFF800000#32 reduces_S2048x8_S2048 (.inl rfl) rfl := by
      unfold val_main_v7 val_main_cst_1
      exact hostReduce_maximumf_eq_multiReduction _ _ _ _ reduces_S2048x8_S2048 (.inl rfl) rfl
    rw [h7, rowMax_apply]
    show max (⊥ : EReal) _ = _
    rw [max_eq_right bot_le]
    exact Finset.sup_congr rfl fun k _ => ref_logit x0 x1 x2 (ix2 t k)
  have hexp : ∀ i : S2048x8.Idx, val_main_v13 (F := Ideal) x0 x1 x2 i
      = Ideal.exp (logit x0 x1 x2 (i 0) (i 1) - Finset.univ.sup (logit x0 x1 x2 (i 0))) := by
    intro i
    rw [val_main_v13_apply, val_main_v12_apply, val_main_v11_apply, val_main_v10_apply, ref_logit]
    have hx : idx_main_v10 (idx_main_v11 i) = ix1 (i 0) := by
      funext a
      match a with
      | ⟨0, _⟩ => rfl
    rw [hx]
    exact congrArg (fun m : EReal => Ideal.exp (logit x0 x1 x2 (i 0) (i 1) - m)) (hmax (i 0))
  rw [val_main_v17_apply, hexp, val_main_v16_apply, val_main_v15_apply, val_main_v14_apply]
  show Ideal.div _ _ = Ideal.div _ _
  refine congrArg₂ Ideal.div rfl ?_
  have hz : val_main_cst_3 (F := Ideal) (Shape.Idx.first Cert.ReferenceIdeal.Gen.facts.h_S_) = (0 : EReal) := Ideal.ofBits_zero_f32
  rw [hz, zero_add]
  refine Finset.sum_congr rfl fun k _ => ?_
  exact hexp _

/-- The kernel's logits. -/
def logitsK (y0 : FVec Ideal S2048x768 .f32) (x1 : FVec Ideal S8x768 .f32) (y2 : FVec Ideal S1x1 .f32) : FVec Ideal S2048x8 .f32 :=
  divf (matmul dot_S2048x768_S8x768_S2048x8_1_1_0_0_n_n none y0 x1 (constant S2048x8 .f32 0x00000000#32))
    (broadcast S2048x8 (clipT (y2 (ix2 (0 : Fin 1) (0 : Fin 1))) : Ideal .f32))

/-- A cast to the same shape changes nothing. -/
theorem shapeCast_same {α : Type} {s : Shape} (v : s.Idx → α) (h : s.ShapeCasts s) : shapeCast s v h = v :=
  funext fun i => shapeCast_apply v h i i rfl

/-- The kernel's probabilities at an index. -/
theorem probsK_apply (y0 : FVec Ideal S2048x768 .f32) (x1 : FVec Ideal S8x768 .f32) (y2 : FVec Ideal S1x1 .f32) (i : S2048x8.Idx) :
    probsK (F := Ideal) y0 x1 y2 i = softmax8 (fun e => logitsK y0 x1 y2 (ix2 (i 0) e)) (i 1) := by
  have hl : divf (matmul dot_S2048x768_S8x768_S2048x8_1_1_0_0_n_n none
      (shapeCast S2048x768 y0 shapeCasts_S2048x768_S2048x768) x1 (constant S2048x8 .f32 0x00000000#32))
        (broadcast S2048x8 (Scalar.minimumf (Scalar.ofBits .f32 0x40A00000#32)
          (Scalar.maximumf (Scalar.ofBits .f32 0x3DCCCCCD#32) (extractAt ![0, 0] y2 inpos_S1x1_p0_0)))) = logitsK y0 x1 y2 := by
    rw [shapeCast_same]
    unfold logitsK
    refine congrArg₂ divf rfl (congrArg (broadcast S2048x8) ?_)
    have : extractAt ![0, 0] y2 inpos_S1x1_p0_0 = y2 (ix2 (0 : Fin 1) (0 : Fin 1)) := by
      unfold extractAt
      refine congrArg y2 (funext fun a => ?_)
      match a with
      | ⟨0, _⟩ => rfl
      | ⟨1, _⟩ => rfl
    rw [this]
    rfl
  unfold probsK k0_pay3
  dsimp only
  rw [hl]
  generalize logitsK y0 x1 y2 = l
  show Ideal.div (Ideal.exp (l i - broadcastTo S2048x8 _ broadcasts_S2048x1_S2048x8 i))
    (broadcastTo S2048x8 _ broadcasts_S2048x1_S2048x8 i) = _
  rw [colBcast_apply, colCast_apply, colBcast_apply, colCast_apply, rowMax_apply, rowSum_apply]
  unfold softmax8
  refine congrArg₂ Ideal.div ?_ (Finset.sum_congr rfl fun k _ => ?_)
  · rw [show i = ix2 (i 0) (i 1) from eq_ix2 i]
    rfl
  · show Ideal.exp (l (ix2 (i 0) k) - broadcastTo S2048x8 _ broadcasts_S2048x1_S2048x8 (ix2 (i 0) k)) = _
    rw [colBcast_apply, colCast_apply, rowMax_apply]

/-- The kernel's probabilities are the reference's. -/
theorem probs_eq (y2 : FVec Ideal S1x1 .f32) (h2 : y2 (ix2 (0 : Fin 1) (0 : Fin 1)) = x2 (ix1 (0 : Fin 1))) :
    probsK (F := Ideal) (val_main_v0 (F := Ideal) x0) x1 y2 = val_main_v17 (F := Ideal) x0 x1 x2 := by
  funext i
  rw [probsK_apply, ref_probs]
  refine congrFun (congrArg softmax8 (funext fun e => ?_)) (i 1)
  unfold logitsK logit
  refine congrArg₂ Ideal.div ((routerDot_apply _ _ _).trans (Finset.sum_congr rfl fun k _ => ?_)) (congrArg clipT h2)
  exact congrArg₂ (fun p q : EReal => p * q) (v0_apply x0 _) rfl

end Cert.KernelIdeal.Hand
-- ==== Proof.Top2.lean ====
/-
  The two greatest of eight: what the kernel's masked minima of lane numbers find and what a stable
  sort puts first are the same two positions.
-/
module

public import proofs.«01_k».proof.Proof.Router
public import Idealize.ShloMosaic.Lib.SortFacts

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-- `a` precedes `b`: a greater value, or the same value at a lower position. -/
def Ahead (f : Fin 8 → EReal) (a b : Fin 8) : Prop := f b < f a ∨ (f b = f a ∧ a < b)

/-- `a` is ahead of every other position and `b` ahead of every other but `a`. -/
structure IsTop2 (f : Fin 8 → EReal) (a b : Fin 8) : Prop where
  ne : a ≠ b
  fst : ∀ e, e ≠ a → Ahead f a e
  snd : ∀ e, e ≠ a → e ≠ b → Ahead f b e

/-- Inserting a position lower than all of a list keeps the list in order. -/
theorem ahead_insert (f : Fin 8 → EReal) (B : Fin 8 → Fin 8 → Bool) (hB : ∀ a b, B a b = true ↔ f b < f a)
    (a : Fin 8) (m : List (Fin 8)) (hm : m.Pairwise (Ahead f)) (ha : ∀ b ∈ m, a < b) :
    (insertBefore B a m).Pairwise (Ahead f) := by
  induction m with
  | nil => exact List.pairwise_singleton _ _
  | cons b l ih =>
    rw [List.pairwise_cons] at hm
    unfold insertBefore
    split
    · rename_i h
      refine List.pairwise_cons.mpr ⟨fun c hc => ?_, ih hm.2 fun c hc => ha c (List.mem_cons_of_mem _ hc)⟩
      rcases List.mem_cons.mp ((perm_insertBefore B a l).mem_iff.mp hc) with rfl | hc'
      · exact Or.inl ((hB _ _).mp h)
      · exact hm.1 c hc'
    · rename_i h
      have hba : f b ≤ f a := not_lt.mp fun hh => h ((hB _ _).mpr hh)
      have hab : a < b := ha b List.mem_cons_self
      refine List.pairwise_cons.mpr ⟨fun c hc => ?_, List.pairwise_cons.mpr hm⟩
      rcases List.mem_cons.mp hc with rfl | hc'
      · rcases lt_or_eq_of_le hba with h1 | h1
        · exact Or.inl h1
        · exact Or.inr ⟨h1, hab⟩
      · rcases hm.1 c hc' with h1 | ⟨h1, h2⟩
        · exact Or.inl (lt_of_lt_of_le h1 hba)
        · rcases lt_or_eq_of_le hba with h3 | h3
          · exact Or.inl (h1 ▸ h3)
          · exact Or.inr ⟨h1.trans h3, hab.trans h2⟩

/-- A stable sort of ascending positions puts the list in order. -/
theorem ahead_sort (f : Fin 8 → EReal) (B : Fin 8 → Fin 8 → Bool) (hB : ∀ a b, B a b = true ↔ f b < f a)
    (l : List (Fin 8)) (hl : l.Pairwise (· < ·)) : (stableSort B l).Pairwise (Ahead f) := by
  induction l with
  | nil => exact List.Pairwise.nil
  | cons a l ih =>
    rw [List.pairwise_cons] at hl
    unfold stableSort
    exact ahead_insert f B hB a _ (ih hl.2) fun b hb => hl.1 b ((perm_stableSort B l).mem_iff.mp hb)

/-- The first two positions of the stable descending sort are the two greatest. -/
theorem isTop2_sorted (f : Fin 8 → EReal) (B : Fin 8 → Fin 8 → Bool) (hB : ∀ a b, B a b = true ↔ f b < f a) :
    IsTop2 f (sortedFrom B 0) (sortedFrom B 1) := by
  have hp : ∀ i j : Fin 8, i < j → Ahead f (sortedFrom B i) (sortedFrom B j) := by
    intro i j hij
    have h := List.pairwise_iff_get.mp (ahead_sort f B hB (List.finRange 8) (List.pairwise_lt_finRange 8))
    unfold sortedFrom
    exact h _ _ (by exact hij)
  have hi := sortedFrom_injective B
  refine ⟨fun h => absurd (hi h) (by decide), fun e he => ?_, fun e he he' => ?_⟩
  · obtain ⟨k, rfl⟩ := sortedFrom_surjective B e
    refine hp 0 k (Fin.pos_iff_ne_zero.mpr fun hk => he (by rw [hk]))
  · obtain ⟨k, rfl⟩ := sortedFrom_surjective B e
    refine hp 1 k ?_
    have h0 : k ≠ 0 := fun hk => he (by rw [hk])
    have h1 : k ≠ 1 := fun hk => he' (by rw [hk])
    rw [Fin.lt_def]
    have h0' : k.val ≠ 0 := fun hh => h0 (Fin.ext hh)
    have h1' : k.val ≠ 1 := fun hh => h1 (Fin.ext hh)
    show 1 < k.val
    omega

/-- The signed minimum of eight words is a word that is among them and not greater than any. -/
theorem fold_minsi (g : Fin 8 → BitVec 32) (v : BitVec 32) (a : Fin 8) (ha : g a = v) (h : ∀ k, v.toInt ≤ (g k).toInt) :
    (Finset.univ : Finset (Fin 8)).fold IntOp.minsi 2147483647#32 g = v := by
  have hom : ∀ x y : BitVec 32, (IntOp.minsi x y).toInt = min x.toInt y.toInt := by
    intro x y
    unfold IntOp.minsi
    split
    · rename_i hh
      rw [BitVec.slt_iff_toInt_lt] at hh
      exact (min_eq_left hh.le).symm
    · rename_i hh
      rw [BitVec.slt_iff_toInt_lt] at hh
      exact (min_eq_right (not_lt.mp hh)).symm
  refine BitVec.eq_of_toInt_eq ?_
  have hf := Finset.fold_hom (op := IntOp.minsi) (op' := min) (b := 2147483647#32) (f := g) (s := (Finset.univ : Finset (Fin 8)))
    (m := BitVec.toInt) hom
  rw [← hf]
  refine le_antisymm ?_ ?_
  · rw [Finset.fold_min_le]
    exact Or.inr ⟨a, Finset.mem_univ _, by rw [ha]⟩
  · rw [Finset.le_fold_min]
    refine ⟨?_, fun k _ => h k⟩
    have h2 : v.toInt < 2 ^ 31 := by
      have := v.isLt
      rw [BitVec.toInt_eq_toNat_cond]; split <;> omega
    have : (2147483647#32 : BitVec 32).toInt = 2147483647 := by decide
    omega

/-- A lane number as a signed word. -/
theorem lane_toInt (k : Fin 8) : (BitVec.ofNat 32 k.val).toInt = k.val := by
  revert k; decide

/-- The least lane number where `p` holds, by the minimum of the lanes masked to `8` elsewhere. -/
theorem fold_first (p : Fin 8 → Prop) [DecidablePred p] (a : Fin 8) (ha : p a) (h : ∀ k, p k → a ≤ k) :
    (Finset.univ : Finset (Fin 8)).fold IntOp.minsi 2147483647#32
      (fun k => Scalar.select (BitVec.ofBool (decide (p k))) (BitVec.ofNat 32 k.val) 8#32) = BitVec.ofNat 32 a.val := by
  have sel : ∀ k, Scalar.select (BitVec.ofBool (decide (p k))) (BitVec.ofNat 32 k.val) 8#32
      = if p k then BitVec.ofNat 32 k.val else 8#32 := by
    intro k
    by_cases hk : p k
    · simp [hk, Scalar.select]
    · simp [hk, Scalar.select]
  refine fold_minsi _ _ a ?_ fun k => ?_
  · rw [sel, if_pos ha]
  · rw [sel]
    split
    · rename_i hk
      rw [lane_toInt, lane_toInt]
      exact_mod_cast h k hk
    · rw [lane_toInt]
      have h8 : (8#32 : BitVec 32).toInt = 8 := by decide
      have := a.isLt
      omega

/-- The first of the two greatest is the row's maximum, and the least lane that reaches it. -/
theorem IsTop2.sup_fst {f : Fin 8 → EReal} {a b : Fin 8} (h : IsTop2 f a b) : Finset.univ.sup f = f a := by
  refine le_antisymm (Finset.sup_le fun e _ => ?_) (Finset.le_sup (Finset.mem_univ a))
  by_cases he : e = a
  · rw [he]
  · rcases h.fst e he with h1 | ⟨h1, _⟩
    · exact h1.le
    · exact h1.le

theorem IsTop2.least_fst {f : Fin 8 → EReal} {a b : Fin 8} (h : IsTop2 f a b) (e : Fin 8) (he : f e = Finset.univ.sup f) : a ≤ e := by
  rw [h.sup_fst] at he
  by_cases hea : e = a
  · rw [hea]
  · rcases h.fst e hea with h1 | ⟨_, h2⟩
    · exact absurd he h1.ne
    · exact h2.le

/-- The values with position `a` masked out. -/
def maskOut (f : Fin 8 → EReal) (a : Fin 8) (e : Fin 8) : EReal := if e = a then ⊥ else f e

theorem IsTop2.sup_snd {f : Fin 8 → EReal} {a b : Fin 8} (h : IsTop2 f a b) : Finset.univ.sup (maskOut f a) = f b := by
  refine le_antisymm (Finset.sup_le fun e _ => ?_) ?_
  · unfold maskOut
    split
    · exact bot_le
    · rename_i hea
      by_cases heb : e = b
      · rw [heb]
      · rcases h.snd e hea heb with h1 | ⟨h1, _⟩
        · exact h1.le
        · exact h1.le
  · have := Finset.le_sup (f := maskOut f a) (Finset.mem_univ b)
    unfold maskOut at this ⊢
    rwa [if_neg (Ne.symm h.ne)] at this

theorem IsTop2.least_snd {f : Fin 8 → EReal} {a b : Fin 8} (h : IsTop2 f a b) (hf : f b ≠ ⊥) (e : Fin 8)
    (he : maskOut f a e = Finset.univ.sup (maskOut f a)) : b ≤ e := by
  rw [h.sup_snd] at he
  unfold maskOut at he
  by_cases hea : e = a
  · rw [if_pos hea] at he
    exact absurd he.symm hf
  · rw [if_neg hea] at he
    by_cases heb : e = b
    · rw [heb]
    · rcases h.snd e hea heb with h1 | ⟨_, h2⟩
      · exact absurd he h1.ne
      · exact h2.le

end Cert.KernelIdeal.Hand
-- ==== Proof.Mask.lean ====
/-
  The kernel's mask: one at each token's two experts, zero elsewhere.
-/
module

public import proofs.«01_k».proof.Proof.Top2

@[expose] public section

set_option maxRecDepth 16384

noncomputable section

namespace Cert.KernelIdeal.Hand

open Cert.KernelIdeal Cert.KernelIdeal.Gen
open Idealize.ShloMosaic Idealize.ShloMosaic.ValueIdx

/-- The row minimum of signed words over the experts. -/
theorem rowMin_apply (x : IVec S2048x8 32) (t : Fin 2048) :
    multiReductionI .minsi [1] S2048 x 2147483647#32 reduces_S2048x8_S2048 rfl (ix1 t)
      = (Finset.univ : Finset (Fin 8)).fold IntOp.minsi 2147483647#32 fun k => x (ix2 t k) := by
  refine (multiReductionI_eq_fold .minsi x 2147483647#32 reduces_S2048x8_S2048 rfl (ix1 t)).trans ?_
  refine ((reduces_S2048x8_S2048).fold_filter_drop_single (IKind.minsi.op) 2147483647#32 x (ix1 t)).trans ?_
  have : (x ∘ (reduces_S2048x8_S2048).lift (ix1 t)) = fun k : Fin 8 => x (ix2 t k) := by
    funext k
    refine congrArg x ?_
    funext a
    match a with
    | ⟨0, _⟩ => rfl
    | ⟨1, _⟩ => rfl
  rw [this]
  rfl

/-- Equality of two lane numbers as words. -/
theorem lane_eq_iff (e a : Fin 8) : BitVec.ofNat 32 e.val = BitVec.ofNat 32 a.val ↔ e = a := by
  revert e a; decide

variable (y0 : FVec Ideal S2048x768 .f32) (x1 : FVec Ideal S8x768 .f32) (y2 : FVec Ideal S1x1 .f32)

/-- Token `t`'s row of the kernel's probabilities. -/
def rowP (t : Fin 2048) (e : Fin 8) : EReal := probsK (F := Ideal) y0 x1 y2 (ix2 t e)

/-- The lane number at an index. -/
theorem laneK_apply (t : Fin 2048) (e : Fin 8) : laneK (ix2 t e) = BitVec.ofNat 32 e.val :=
  iota_single_apply .tc S2048x8 32 1 iota_S2048x8_d1_w32 (ix2 t e)

/-- The first expert the kernel finds. -/
theorem pay4_apply (t : Fin 2048) {a b : Fin 8} (h : IsTop2 (rowP y0 x1 y2 t) a b) (j : S2048x1.Idx) (hj : j 0 = t) :
    k0_pay4 (F := Ideal) y0 x1 y2 j = BitVec.ofNat 32 a.val := by
  unfold k0_pay4
  dsimp only
  rw [colCast_apply, hj, rowMin_apply]
  refine Eq.trans ?_ (fold_first (fun e => rowP y0 x1 y2 t e = Finset.univ.sup (rowP y0 x1 y2 t)) a h.sup_fst.symm h.least_fst)
  refine congrArg (Finset.fold _ _ · _) (funext fun k => ?_)
  show Scalar.select (Ideal.cmp .oeq (rowP y0 x1 y2 t k) (broadcastTo S2048x8 _ broadcasts_S2048x1_S2048x8 (ix2 t k))) (laneK (ix2 t k)) 8#32 = _
  rw [colBcast_apply, colCast_apply, laneK_apply]
  have hm := rowMax_apply (k0_pay3 (F := Ideal) y0 x1 y2) (ix1 t)
  refine congrArg (Scalar.select · _ _) ?_
  refine (congrArg (Ideal.cmp .oeq (rowP y0 x1 y2 t k)) hm).trans ?_
  unfold Ideal.cmp
  rfl

/-- Whether a lane is the first expert. -/
theorem pay6_apply (t : Fin 2048) {a b : Fin 8} (h : IsTop2 (rowP y0 x1 y2 t) a b) (e : Fin 8) :
    k0_pay6 (F := Ideal) y0 x1 y2 (ix2 t e) = BitVec.ofBool (decide (e = a)) := by
  unfold k0_pay6
  dsimp only
  show IntOp.cmpi .eq (laneK (ix2 t e)) (broadcastTo S2048x8 _ broadcasts_S2048x1_S2048x8 (ix2 t e)) = _
  rw [colBcast_apply, pay4_apply y0 x1 y2 t h _ rfl, laneK_apply]
  show BitVec.ofBool (BitVec.ofNat 32 e.val == BitVec.ofNat 32 a.val) = _
  congr 1
  rw [Bool.eq_iff_iff, beq_iff_eq, lane_eq_iff, decide_eq_true_iff]

/-- The second expert the kernel finds. -/
theorem pay5_apply (t : Fin 2048) {a b : Fin 8} (h : IsTop2 (rowP y0 x1 y2 t) a b) (hb : rowP y0 x1 y2 t b ≠ ⊥)
    (j : S2048x1.Idx) (hj : j 0 = t) : k0_pay5 (F := Ideal) y0 x1 y2 j = BitVec.ofNat 32 b.val := by
  have hmk : ∀ k : Fin 8, (select (cmpi .eq laneK (broadcastTo S2048x8 (k0_pay4 (F := Ideal) y0 x1 y2) broadcasts_S2048x1_S2048x8))
      (broadcast S2048x8 (Scalar.ofBits (F := Ideal) .f32 0xFF800000#32)) (k0_pay3 (F := Ideal) y0 x1 y2)) (ix2 t k)
      = maskOut (rowP y0 x1 y2 t) a k := by
    intro k
    have h6 := pay6_apply y0 x1 y2 t h k
    show Scalar.select (k0_pay6 (F := Ideal) y0 x1 y2 (ix2 t k)) (Ideal.ofBits .f32 0xFF800000#32) (rowP y0 x1 y2 t k) = _
    have hbot : Ideal.ofBits .f32 0xFF800000#32 = ⊥ := by simp [Ideal.ofBits, Ideal.ieee]
    rw [h6, hbot]
    unfold maskOut
    by_cases hk : k = a
    · simp [hk, Scalar.select]
    · simp [hk, Scalar.select]
  have key : ∀ M : FVec Ideal S2048x8 .f32, (∀ k : Fin 8, M (ix2 t k) = maskOut (rowP y0 x1 y2 t) a k) →
      shapeCast S2048x1 (multiReductionI .minsi [1] S2048 (select (cmpf .oeq M (broadcastTo S2048x8
        (shapeCast S2048x1 (multiReduction .maximumf [1] S2048 M 0xFF800000#32 reduces_S2048x8_S2048 (.inl rfl) rfl)
          shapeCasts_S2048_S2048x1) broadcasts_S2048x1_S2048x8)) laneK (broadcast S2048x8 8#32))
        2147483647#32 reduces_S2048x8_S2048 rfl) shapeCasts_S2048_S2048x1 j = BitVec.ofNat 32 b.val := by
    intro M hM
    rw [colCast_apply, hj, rowMin_apply]
    refine Eq.trans ?_ (fold_first (fun e => maskOut (rowP y0 x1 y2 t) a e = Finset.univ.sup (maskOut (rowP y0 x1 y2 t) a)) b ?_ (h.least_snd hb))
    · refine congrArg (Finset.fold _ _ · _) (funext fun k => ?_)
      have hm := rowMax_apply M (ix1 t)
      have hs : (Finset.univ.sup fun k : Fin 8 => (M (ix2 t k) : EReal)) = Finset.univ.sup (maskOut (rowP y0 x1 y2 t) a) :=
        Finset.sup_congr rfl fun k _ => hM k
      show Scalar.select (Ideal.cmp .oeq (M (ix2 t k)) (broadcastTo S2048x8 _ broadcasts_S2048x1_S2048x8 (ix2 t k))) (laneK (ix2 t k)) 8#32 = _
      rw [colBcast_apply, colCast_apply, laneK_apply, hM]
      refine congrArg (Scalar.select · _ _) ?_
      refine (congrArg (Ideal.cmp .oeq (maskOut (rowP y0 x1 y2 t) a k)) (hm.trans hs)).trans ?_
      unfold Ideal.cmp
      rfl
    · rw [h.sup_snd]
      unfold maskOut
      rw [if_neg (Ne.symm h.ne)]
  exact key _ hmk

/-- The mask at an index. -/
theorem maskK_apply (t : Fin 2048) {a b : Fin 8} (h : IsTop2 (rowP y0 x1 y2 t) a b) (hb : rowP y0 x1 y2 t b ≠ ⊥) (e : Fin 8) :
    maskK (F := Ideal) y0 x1 y2 (ix2 t e) = if e = a ∨ e = b then (1 : EReal) else 0 := by
  have h5 : (cmpi .eq laneK (broadcastTo S2048x8 (k0_pay5 (F := Ideal) y0 x1 y2) broadcasts_S2048x1_S2048x8)) (ix2 t e)
      = BitVec.ofBool (decide (e = b)) := by
    show IntOp.cmpi .eq (laneK (ix2 t e)) (broadcastTo S2048x8 _ broadcasts_S2048x1_S2048x8 (ix2 t e)) = _
    rw [colBcast_apply, pay5_apply y0 x1 y2 t h hb _ rfl, laneK_apply]
    show BitVec.ofBool (BitVec.ofNat 32 e.val == BitVec.ofNat 32 b.val) = _
    congr 1
    rw [Bool.eq_iff_iff, beq_iff_eq, lane_eq_iff, decide_eq_true_iff]
  have h6 := pay6_apply y0 x1 y2 t h e
  show ((((IntOp.ori (k0_pay6 (F := Ideal) y0 x1 y2 (ix2 t e))
    ((cmpi .eq laneK (broadcastTo S2048x8 (k0_pay5 (F := Ideal) y0 x1 y2) broadcasts_S2048x1_S2048x8)) (ix2 t e))).setWidth 32).toInt : ℝ) : EReal) = _
  have bits : ∀ p q : Bool, ((IntOp.ori (BitVec.ofBool p) (BitVec.ofBool q)).setWidth 32).toInt = if (p || q) = true then 1 else 0 := by
    decide
  rw [h5, h6, bits]
  by_cases h1 : e = a ∨ e = b
  · rw [if_pos h1, if_pos (by simpa using h1)]; simp
  · rw [if_neg h1, if_neg (by simpa using h1)]; simp

end Cert.KernelIdeal.Hand
-- ==== Proof.RefTop.lean ====
/-
  The reference's routing: its top two experts of a token, the index pairs built from them, and its mask.
-/
module

public import proofs.«01_k».proof.Proof.Mask
public import Idealize.ShloMosaic.Lib.Routing.OpsPair
public import Idealize.ShloMosaic.Lib.Routing.OpsSet

@[expose] public section

set_option maxRecDepth 16384

noncomputable section

namespace Cert.KernelIdeal.Hand

open Cert.ReferenceIdeal Cert.ReferenceIdeal.Read
open Idealize.ShloMosaic Idealize.ShloMosaic.ValueIdx Idealize.ShloMosaic.Routing

/-- The order a descending sort of eight values uses. -/
def gtB (f : Fin 8 → EReal) : Fin 8 → Fin 8 → Bool := fun k k' => Ideal.cmp .ogt (f k) (f k') == 1#1

theorem gtB_iff (f : Fin 8 → EReal) (a b : Fin 8) : gtB f a b = true ↔ f b < f a := by
  unfold gtB
  rw [beq_iff_eq]
  show (BitVec.ofBool (decide (f b < f a)) = 1#1) ↔ _
  by_cases h : f b < f a
  · simp [h]
  · simp [h]

/-- The `k`-th greatest of eight values, as a position. -/
def pick8 (f : Fin 8 → EReal) (k : Fin 2) : Fin 8 := sortedFrom (gtB f) (k.castLE (by decide))

theorem pick8_top2 (f : Fin 8 → EReal) : IsTop2 f (pick8 f 0) (pick8 f 1) := isTop2_sorted f _ (gtB_iff f)

theorem along_ix2 (t : Fin 2048) (e k : Fin 8) : Shape.Idx.along (s := S2048x8) (ix2 t e) (1 : Fin 2) k = ix2 t k := by
  funext a
  match a with
  | ⟨0, _⟩ => rfl
  | ⟨1, _⟩ => rfl

/-- The two results of the reference's top-2 over a table of values. -/
theorem topK_apply (x : FVec Ideal S2048x8 .f32) (h : S2048x8.Slices (fun _ => 0) S2048x2) (t : Fin 2048) (k : Fin 2) :
    (Host.topK S2048x2 1 (FloatOps.cmpfTotal (F := Ideal) (φ := .f32) .gt) x h).1 (ix2 t k) = x (ix2 t (pick8 (fun e => x (ix2 t e)) k))
    ∧ (Host.topK S2048x2 1 (FloatOps.cmpfTotal (F := Ideal) (φ := .f32) .gt) x h).2 (ix2 t k)
        = BitVec.ofNat 32 (pick8 (fun e => x (ix2 t e)) k).val := by
  have hB : (fun a b : Fin 8 => FloatOps.cmpfTotal (F := Ideal) (φ := .f32) .gt
        (x (Shape.Idx.along (s := S2048x8) (ix2 t (k.castLE (by decide : 2 ≤ 8))) (1 : Fin 2) a))
        (x (Shape.Idx.along (s := S2048x8) (ix2 t (k.castLE (by decide : 2 ≤ 8))) (1 : Fin 2) b)) == 1#1)
      = gtB (fun e => x (ix2 t e)) := by
    funext a b
    simp only [along_ix2]
    rfl
  constructor
  · unfold Host.topK
    dsimp only
    refine (extractStridedSlice_apply (fun _ => 0) _ h (ix2 t k) (ix2 t (k.castLE (by decide : 2 ≤ 8))) (fun a => ?_)).trans ?_
    · match a with
      | ⟨0, _⟩ => exact (Nat.zero_add _).symm
      | ⟨1, _⟩ => exact (Nat.zero_add _).symm
    · unfold Host.sort2
      rw [dif_pos (show 1 < S2048x8.rank by decide)]
      refine (congrArg x ?_ : _ = x (ix2 t (pick8 (fun e => x (ix2 t e)) k)))
      refine (congrArg (fun B => Shape.Idx.along (s := S2048x8) (ix2 t (k.castLE (by decide : 2 ≤ 8))) (1 : Fin 2)
        (sortedFrom B (k.castLE (by decide : 2 ≤ 8)))) hB).trans ?_
      exact along_ix2 t _ _
  · unfold Host.topK
    dsimp only
    refine (extractStridedSlice_apply (fun _ => 0) _ h (ix2 t k) (ix2 t (k.castLE (by decide : 2 ≤ 8))) (fun a => ?_)).trans ?_
    · match a with
      | ⟨0, _⟩ => exact (Nat.zero_add _).symm
      | ⟨1, _⟩ => exact (Nat.zero_add _).symm
    · unfold Host.sort2
      rw [dif_pos (show 1 < S2048x8.rank by decide)]
      refine (congrArg (fun j : S2048x8.Idx => BitVec.ofNat 32 (j 1).val) (?_ : _ = ix2 t (pick8 (fun e => x (ix2 t e)) k)))
      refine (congrArg (fun B => Shape.Idx.along (s := S2048x8) (ix2 t (k.castLE (by decide : 2 ≤ 8))) (1 : Fin 2)
        (sortedFrom B (k.castLE (by decide : 2 ≤ 8)))) hB).trans ?_
      exact along_ix2 t _ _

variable (x0 : FVec Ideal S1x2048x768 .f32) (x1 : FVec Ideal S8x768 .f32) (x2 : FVec Ideal S1 .f32)

/-- The reference's probabilities of one token. -/
def rowR (t : Fin 2048) : Fin 8 → EReal := fun e => val_main_v17 (F := Ideal) x0 x1 x2 (ix2 t e)

/-- The reference's `k`-th expert of a token. -/
def pick (t : Fin 2048) (k : Fin 2) : Fin 8 := pick8 (rowR x0 x1 x2 t) k

theorem pick_top2 (t : Fin 2048) : IsTop2 (rowR x0 x1 x2 t) (pick x0 x1 x2 t 0) (pick x0 x1 x2 t 1) := pick8_top2 _

theorem values_apply (t : Fin 2048) (k : Fin 2) : val_main_values (F := Ideal) x0 x1 x2 (ix2 t k) = rowR x0 x1 x2 t (pick x0 x1 x2 t k) := by
  unfold val_main_values pick rowR
  generalize val_main_v17 (F := Ideal) x0 x1 x2 = y
  exact (topK_apply y _ t k).1

theorem indices_apply (t : Fin 2048) (k : Fin 2) : val_main_indices (F := Ideal) x0 x1 x2 (ix2 t k) = BitVec.ofNat 32 (pick x0 x1 x2 t k).val := by
  unfold val_main_indices pick rowR
  generalize val_main_v17 (F := Ideal) x0 x1 x2 = y
  exact (topK_apply y _ t k).2

/-- A row index keeps its value through the wrap of negative indices. -/
theorem rowWrap (j : S2048x1.Idx) : val_main_v25 (F := Ideal) j = BitVec.ofNat 32 (j 0).val := by
  rw [val_main_v25_apply]
  have h19 : val_main_v19 (F := Ideal) j = BitVec.ofNat 32 (j 0).val := by
    rw [val_main_v19_apply]
    rfl
  have h22 : val_main_v22 (F := Ideal) j = IntOp.cmpi .slt (BitVec.ofNat 32 (j 0).val) 0#32 := by
    show IntOp.cmpi .slt (val_main_v19 (F := Ideal) j) (val_main_v21 (F := Ideal) j) = _
    rw [h19, val_main_v21_apply]
    rfl
  rw [h22, h19]
  refine wrap_of_lt _ _ ?_
  have : (j 0).val < 2048 := (j 0).isLt
  rw [BitVec.toNat_ofNat]
  omega

/-- So does an expert index. -/
theorem expertWrap (t : Fin 2048) (k : Fin 2) : val_main_v30 (F := Ideal) x0 x1 x2 (ix2 t k) = BitVec.ofNat 32 (pick x0 x1 x2 t k).val := by
  rw [val_main_v30_apply]
  have h27 : val_main_v27 (F := Ideal) x0 x1 x2 (ix2 t k) = IntOp.cmpi .slt (BitVec.ofNat 32 (pick x0 x1 x2 t k).val) 0#32 := by
    show IntOp.cmpi .slt (val_main_indices (F := Ideal) x0 x1 x2 (ix2 t k)) (val_main_v26 (F := Ideal) (ix2 t k)) = _
    rw [indices_apply, val_main_v26_apply]
    rfl
  rw [h27, indices_apply]
  refine wrap_of_lt _ _ ?_
  have : (pick x0 x1 x2 t k).val < 8 := (pick x0 x1 x2 t k).isLt
  rw [BitVec.toNat_ofNat]
  omega

/-- The first word of the index pair of a token's `k`-th choice is the token. -/
theorem pair_row (t : Fin 2048) (k : Fin 2) : val_main_v34 (F := Ideal) x0 x1 x2 (ix3 t k (0 : Fin 2)) = BitVec.ofNat 32 t.val := by
  refine (concatenate_pair_apply_left (t := S2048x2x2) (s₁ := S2048x2x1) (s₂ := S2048x2x1) 2 _ _ _ (ix3 t k (0 : Fin 2)) rfl (ix3 t k (0 : Fin 1))
    (fun b => ?_)).trans ?_
  · match b with
    | ⟨0, _⟩ => rfl
    | ⟨1, _⟩ => rfl
    | ⟨2, _⟩ => rfl
  · rw [val_main_v32_apply, val_main_v31_apply, rowWrap]

/-- The second word is the expert. -/
theorem pair_expert (t : Fin 2048) (k : Fin 2) :
    val_main_v34 (F := Ideal) x0 x1 x2 (ix3 t k (1 : Fin 2)) = BitVec.ofNat 32 (pick x0 x1 x2 t k).val := by
  refine (concatenate_pair_apply_right (t := S2048x2x2) (s₁ := S2048x2x1) (s₂ := S2048x2x1) 2 _ _ _ (ix3 t k (1 : Fin 2)) rfl rfl (ix3 t k (0 : Fin 1))
    (fun b hb => ?_) rfl).trans ?_
  · match b with
    | ⟨0, _⟩ => rfl
    | ⟨1, _⟩ => rfl
    | ⟨2, _⟩ => exact absurd rfl hb
  · rw [val_main_v33_apply]
    refine Eq.trans (congrArg _ ?_) (expertWrap x0 x1 x2 t k)
    funext a
    match a with
    | ⟨0, _⟩ => rfl
    | ⟨1, _⟩ => rfl

theorem toInt_small (n : Nat) (h : n < 4096) : (BitVec.ofNat 32 n).toInt = (n : Int) := by
  rw [BitVec.toInt_eq_toNat_cond, BitVec.toNat_ofNat, Nat.mod_eq_of_lt (by omega), if_pos (by omega)]

/-- The reference's mask: one at each token's two experts, zero elsewhere. -/
theorem refMask_apply (t : Fin 2048) (e : Fin 8) :
    val_main_v36 (F := Ideal) x0 x1 x2 (ix2 t e) = if e = pick x0 x1 x2 t 0 ∨ e = pick x0 x1 x2 t 1 then 1 else 0 := by
  have hl : ∀ k : S2048x2.Idx, scatter_S2048x8_S2048x2x2_S2048x2_n_01_01_2.resultIdx? k (val_main_v34 (F := Ideal) x0 x1 x2) = some (ix2 t e)
      ↔ k 0 = t ∧ pick x0 x1 x2 t (k 1) = e := by
    intro k
    rw [eq_ix2 k]
    refine (scatter_lands2 scatter_S2048x8_S2048x2x2_S2048x2_n_01_01_2 rfl rfl rfl (val_main_v34 (F := Ideal) x0 x1 x2) (k 0) (k 1) t e).trans ?_
    have h0 := pair_row x0 x1 x2 (k 0) (k 1)
    have h1 := pair_expert x0 x1 x2 (k 0) (k 1)
    rw [h0, h1, toInt_small _ (by have : (k 0).val < 2048 := (k 0).isLt; omega),
      toInt_small _ (by have : (pick x0 x1 x2 (k 0) (k 1)).val < 8 := (pick x0 x1 x2 (k 0) (k 1)).isLt; omega)]
    show _ ↔ (k 0 = t ∧ _)
    constructor
    · rintro ⟨ha, hb⟩
      have hk : k 0 = t := Fin.ext (by exact_mod_cast ha)
      refine ⟨hk, ?_⟩
      rw [← hk]
      exact Fin.ext (by exact_mod_cast hb)
    · rintro ⟨ha, hb⟩
      subst ha
      exact ⟨rfl, by rw [← hb]⟩
  unfold val_main_v36
  have h1 : ∀ k, val_main_v35 (F := Ideal) k = 1 := by
    intro k
    rw [val_main_v35_apply]
    exact Ideal.ofBits_one_f32
  by_cases h : e = pick x0 x1 x2 t 0 ∨ e = pick x0 x1 x2 t 1
  · rw [if_pos h]
    rcases h with h | h
    · exact scatter_set_hit _ _ _ _ _ 1 (fun k _ => h1 k) (ix2 t (0 : Fin 2)) ((hl _).mpr ⟨rfl, h.symm⟩)
    · exact scatter_set_hit _ _ _ _ _ 1 (fun k _ => h1 k) (ix2 t (1 : Fin 2)) ((hl _).mpr ⟨rfl, h.symm⟩)
  · rw [if_neg h]
    refine (scatter_set_miss _ _ _ _ _ fun k hk => h ?_).trans ?_
    · obtain ⟨-, h2⟩ := (hl k).mp hk
      have hk2 : ∀ q : Fin 2, q = 0 ∨ q = 1 := by decide
      rcases hk2 (k 1) with h3 | h3
      · exact Or.inl (by rw [← h2, h3])
      · exact Or.inr (by rw [← h2, h3])
    · rw [val_main_v20_apply]
      exact Ideal.ofBits_zero_f32

end Cert.KernelIdeal.Hand
-- ==== Proof.Finite.lean ====
/-
  With finite tokens and router weights every probability is a positive real number.
-/
module

public import proofs.«01_k».proof.Proof.RefTop
public import proofs.«01_k».proof.Proof.Gen.Pre_router_finite
public import Idealize.ShloMosaic.Lib.ReduceAll

@[expose] public section

set_option maxRecDepth 16384

noncomputable section

namespace Cert.KernelIdeal.Hand

open Cert.ReferenceIdeal Cert.ReferenceIdeal.Read
open Idealize.ShloMosaic Idealize.ShloMosaic.ValueIdx

/-- An extended real whose magnitude is below the infinity pattern is a real number. -/
theorem real_of_absf (v : EReal) (h : Ideal.cmp .olt (FloatOps.hostAbsf (F := Ideal) (φ := .f32) v) (Ideal.ofBits .f32 0x7F800000#32) = 1#1) :
    ∃ r : ℝ, v = r := by
  have hi : Ideal.ofBits .f32 0x7F800000#32 = ⊤ := by simp [Ideal.ofBits, Ideal.ieee]
  rw [hi] at h
  have h' : BitVec.ofBool (decide ((FloatOps.hostAbsf (F := Ideal) (φ := .f32) v : EReal) < ⊤)) = 1#1 := h
  have hlt : (max v (-v) : EReal) < ⊤ := by
    by_contra hn
    have : decide ((FloatOps.hostAbsf (F := Ideal) (φ := .f32) v : EReal) < ⊤) = false := decide_eq_false hn
    rw [this] at h'
    exact absurd h' (by decide)
  induction v with
  | bot => exact absurd hlt (by simp)
  | top => exact absurd hlt (by simp)
  | coe r => exact ⟨r, rfl⟩

/-- What the precondition says: every token feature and every router weight is a real number. -/
theorem finite_of_pre (a0 : FVec Ideal S1x2048x768 .f32) (a1 : FVec Ideal S8x768 .f32) (a2 : FVec Ideal S1 .f32)
    (a3 : FVec Ideal S8x1536x768 .f32) (a4 : FVec Ideal S8x1536x768 .f32) (a5 : FVec Ideal S8x768x1536 .f32)
    (h : Cert.Pre_router_finite.fn (F := Ideal) a0 a1 a2 a3 a4 a5 = fun _ => 1#1) :
    (∀ i, ∃ r : ℝ, a0 i = (r : EReal)) ∧ (∀ i, ∃ r : ℝ, a1 i = (r : EReal)) := by
  have h0 := congrFun h (fun a => a.elim0)
  unfold Cert.Pre_router_finite.fn at h0
  obtain ⟨ha, hb⟩ := IntOp.andi_eq_one.1 h0
  haveI : Subsingleton Cert.Pre_router_finite.S_.Idx := ⟨fun _ _ => funext fun a => a.elim0⟩
  exact ⟨fun i => real_of_absf _ (Host.reduce_andi_all _ _ _ _ _ ha i), fun i => real_of_absf _ (Host.reduce_andi_all _ _ _ _ _ hb i)⟩

theorem coe_sum {n : Nat} (f : Fin n → ℝ) : ((∑ k, f k : ℝ) : EReal) = ∑ k, (f k : EReal) :=
  map_sum (⟨⟨Real.toEReal, rfl⟩, fun a b => EReal.coe_add a b⟩ : ℝ →+ EReal) f Finset.univ

/-- The clipped temperature is a positive real number, whatever the temperature. -/
theorem clipT_real (t : EReal) : ∃ c : ℝ, 0 < c ∧ clipT t = (c : EReal) := by
  unfold clipT
  obtain ⟨u, hu, hu0⟩ : ∃ u : ℝ, Ideal.ofBits .f32 0x40A00000#32 = (u : EReal) ∧ 0 < u := by
    refine ⟨_, by simp [Ideal.ofBits, Ideal.ieee]; rfl, by norm_num⟩
  obtain ⟨l, hl, hl0⟩ : ∃ l : ℝ, Ideal.ofBits .f32 0x3DCCCCCD#32 = (l : EReal) ∧ 0 < l := by
    refine ⟨_, by simp [Ideal.ofBits, Ideal.ieee]; rfl, by norm_num⟩
  rw [hu, hl]
  induction t with
  | bot => exact ⟨min u l, lt_min hu0 hl0, by rw [max_eq_left bot_le]; exact (EReal.coe_strictMono.monotone.map_min).symm⟩
  | top => exact ⟨u, hu0, by rw [max_eq_right le_top, min_eq_left le_top]⟩
  | coe r => exact ⟨min u (max l r), lt_min hu0 (lt_max_of_lt_left hl0), by rw [EReal.coe_strictMono.monotone.map_min, EReal.coe_strictMono.monotone.map_max]⟩

theorem div_coe (a c : ℝ) (hc : c ≠ 0) : Ideal.div (a : EReal) (c : EReal) = ((a / c : ℝ) : EReal) := by
  unfold Ideal.div
  rw [if_neg (by exact_mod_cast hc), div_eq_mul_inv, EReal.coe_mul, EReal.coe_inv]

theorem sup_coe (g : Fin 8 → ℝ) : ∃ M : ℝ, (Finset.univ.sup fun k => (g k : EReal)) = (M : EReal) := by
  obtain ⟨k, -, hk⟩ := Finset.exists_mem_eq_sup (Finset.univ : Finset (Fin 8)) ⟨0, Finset.mem_univ _⟩ (fun k => (g k : EReal))
  exact ⟨g k, hk⟩

/-- The softmax of real logits is a positive real number. -/
theorem softmax8_real (g : Fin 8 → ℝ) (e : Fin 8) : ∃ r : ℝ, 0 < r ∧ softmax8 (fun k => (g k : EReal)) e = (r : EReal) := by
  unfold softmax8
  obtain ⟨M, hM⟩ := sup_coe g
  rw [hM]
  have hx : ∀ k, Ideal.exp ((g k : EReal) - (M : EReal)) = ((Real.exp (g k - M) : ℝ) : EReal) := by
    intro k
    rw [← EReal.coe_sub]
    rfl
  simp only [hx]
  rw [← coe_sum]
  have hs : 0 < ∑ k : Fin 8, Real.exp (g k - M) := Finset.sum_pos (fun k _ => Real.exp_pos _) ⟨0, Finset.mem_univ _⟩
  exact ⟨_, div_pos (Real.exp_pos _) hs, div_coe _ _ hs.ne'⟩

variable (x0 : FVec Ideal S1x2048x768 .f32) (x1 : FVec Ideal S8x768 .f32) (x2 : FVec Ideal S1 .f32)

/-- Every probability is a positive real number. -/
theorem rowR_real (h0 : ∀ i, ∃ r : ℝ, x0 i = (r : EReal)) (h1 : ∀ i, ∃ r : ℝ, x1 i = (r : EReal)) (t : Fin 2048) (e : Fin 8) :
    ∃ r : ℝ, 0 < r ∧ rowR x0 x1 x2 t e = (r : EReal) := by
  choose f0 hf0 using h0
  choose f1 hf1 using h1
  obtain ⟨c, hc, hcl⟩ := clipT_real (x2 (ix1 (0 : Fin 1)))
  have hl : ∀ e, logit x0 x1 x2 t e = (((∑ k : Fin 768, f0 (ix3 (0 : Fin 1) t k) * f1 (ix2 e k)) / c : ℝ) : EReal) := by
    intro e
    unfold logit
    rw [hcl]
    have hs : (∑ k : Fin 768, (x0 (ix3 (0 : Fin 1) t k) : EReal) * (x1 (ix2 e k) : EReal))
        = ((∑ k : Fin 768, f0 (ix3 (0 : Fin 1) t k) * f1 (ix2 e k) : ℝ) : EReal) := by
      rw [coe_sum]
      refine Finset.sum_congr rfl fun k _ => ?_
      rw [hf0, hf1, EReal.coe_mul]
    rw [hs, div_coe _ _ hc.ne']
  unfold rowR
  rw [ref_probs]
  show ∃ r : ℝ, 0 < r ∧ softmax8 (logit x0 x1 x2 t) e = (r : EReal)
  rw [show logit x0 x1 x2 t = fun e => (((∑ k : Fin 768, f0 (ix3 (0 : Fin 1) t k) * f1 (ix2 e k)) / c : ℝ) : EReal) from funext hl]
  exact softmax8_real _ e

end Cert.KernelIdeal.Hand
-- ==== Proof.Count.lean ====
/-
  The running count of each expert's assignments: eleven doubling steps are the reference's windowed sum.
-/
module

public import proofs.«01_k».proof.Proof.Mask

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-- One doubling step: add the rows `s` back, zero above the first. -/
def dbl (s : BitVec 32) (x : FVec Ideal S2048x8 .f32) : FVec Ideal S2048x8 .f32 :=
  addf x (select (cmpi .sge rowK (broadcast S2048x8 s)) (dynamicRotate 0 s none x rotates_S2048x8_d0)
    (broadcast S2048x8 (Scalar.ofBits .f32 0x00000000#32)))

/-- The sum of the `n` rows that end at row `t`. -/
def lastRows (m : Fin 2048 → EReal) (n : Nat) (t : Nat) : EReal :=
  ∑ r ∈ Finset.range n, if h : r ≤ t ∧ t - r < 2048 then m ⟨t - r, h.2⟩ else 0

/-- A doubling step turns sums of `n` rows into sums of `2 n`. -/
theorem lastRows_double (m : Fin 2048 → EReal) (n t : Nat) :
    lastRows m (n + n) t = lastRows m n t + if n ≤ t then lastRows m n (t - n) else 0 := by
  unfold lastRows
  rw [Finset.sum_range_add]
  congr 1
  by_cases hn : n ≤ t
  · rw [if_pos hn]
    refine Finset.sum_congr rfl fun r _ => ?_
    by_cases h : n + r ≤ t ∧ t - (n + r) < 2048
    · rw [dif_pos h, dif_pos ⟨by omega, by omega⟩]
      exact congrArg m (Fin.ext (show t - (n + r) = t - n - r by omega))
    · rw [dif_neg h, dif_neg fun h' => h ⟨by omega, by omega⟩]
  · rw [if_neg hn]
    exact Finset.sum_eq_zero fun r _ => dif_neg fun h => hn (by omega)

/-- The row number at an index. -/
theorem rowK_apply (t : Fin 2048) (e : Fin 8) : rowK (ix2 t e) = BitVec.ofNat 32 t.val :=
  iota_single_apply .tc S2048x8 32 0 iota_S2048x8_d0_w32 (ix2 t e)

/-- A doubling step at an index. -/
theorem dbl_apply (s : Nat) (hs : s < 2048) (x : FVec Ideal S2048x8 .f32) (t : Fin 2048) (e : Fin 8) :
    dbl (BitVec.ofNat 32 s) x (ix2 t e)
      = (x (ix2 t e) : EReal) + if h : s ≤ t.val then (x (ix2 (⟨t.val - s, by omega⟩ : Fin 2048) e) : EReal) else 0 := by
  have ht := t.isLt
  show (x (ix2 t e) : EReal) + Scalar.select (IntOp.cmpi .sge (rowK (ix2 t e)) (BitVec.ofNat 32 s))
    (dynamicRotate 0 (BitVec.ofNat 32 s) none x rotates_S2048x8_d0 (ix2 t e)) (Ideal.ofBits .f32 0x00000000#32) = _
  refine congrArg ((x (ix2 t e) : EReal) + ·) ?_
  rw [rowK_apply, Ideal.ofBits_zero_f32]
  have hc : IntOp.cmpi .sge (BitVec.ofNat 32 t.val) (BitVec.ofNat 32 s) = BitVec.ofBool (decide (s ≤ t.val)) := by
    show BitVec.ofBool ((BitVec.ofNat 32 s).sle (BitVec.ofNat 32 t.val)) = _
    congr 1
    rw [Bool.eq_iff_iff, BitVec.sle_iff_toInt_le, decide_eq_true_iff, BitVec.toInt_eq_toNat_cond, BitVec.toInt_eq_toNat_cond,
      BitVec.toNat_ofNat, BitVec.toNat_ofNat]
    rw [Nat.mod_eq_of_lt (by omega), Nat.mod_eq_of_lt (by omega), if_pos (by omega), if_pos (by omega)]
    omega
  rw [hc]
  by_cases h : s ≤ t.val
  · rw [dif_pos h]
    have e1 := dynamicRotate_apply (0 : Fin S2048x8.rank) (BitVec.ofNat 32 s) x rotates_S2048x8_d0 (ix2 t e)
      (ix2 (⟨t.val - s, by omega⟩ : Fin 2048) e) (by
        intro b
        match b with
        | ⟨0, _⟩ =>
          show t.val - s = (t.val + 2048 - (BitVec.ofNat 32 s).toNat % 2048) % 2048
          rw [BitVec.toNat_ofNat, Nat.mod_eq_of_lt (show s < 2 ^ 32 by omega)]
          omega
        | ⟨1, _⟩ => rfl)
    rw [e1]
    simp [h, Scalar.select]
  · rw [dif_neg h]
    simp [h, Scalar.select]

/-- From sums of `n` rows a doubling step makes sums of `2 n`. -/
theorem dbl_lastRows (m : Fin 2048 → Fin 8 → EReal) (n : Nat) (hn : n < 2048) (x : FVec Ideal S2048x8 .f32)
    (hx : ∀ t e, x (ix2 t e) = lastRows (fun t => m t e) n t.val) (t : Fin 2048) (e : Fin 8) :
    dbl (BitVec.ofNat 32 n) x (ix2 t e) = lastRows (fun t => m t e) (n + n) t.val := by
  rw [dbl_apply n hn x t e, lastRows_double, hx]
  congr 1
  by_cases h : n ≤ t.val
  · rw [dif_pos h, if_pos h, hx]
  · rw [dif_neg h, if_neg h]

variable (y0 : FVec Ideal S2048x768 .f32) (x1 : FVec Ideal S8x768 .f32) (y2 : FVec Ideal S1x1 .f32)

/-- The kernel's running count. -/
def cumK : FVec Ideal S2048x8 .f32 := k0_pay9 (F := Ideal) rowK (cum6K (F := Ideal) y0 x1 y2)

/-- The running count is the eleven doubling steps from the mask. -/
theorem cumK_eq : cumK y0 x1 y2 = dbl 1024#32 (dbl 512#32 (dbl 256#32 (dbl 128#32 (dbl 64#32 (dbl 32#32 (dbl 16#32
    (dbl 8#32 (dbl 4#32 (dbl 2#32 (dbl 1#32 (maskK (F := Ideal) y0 x1 y2))))))))))) := rfl

/-- The kernel's running count at an index. -/
theorem cumK_apply (t : Fin 2048) (e : Fin 8) :
    cumK y0 x1 y2 (ix2 t e) = lastRows (fun t => (maskK (F := Ideal) y0 x1 y2 (ix2 t e) : EReal)) 2048 t.val := by
  rw [cumK_eq]
  refine dbl_lastRows (fun t e => maskK (F := Ideal) y0 x1 y2 (ix2 t e)) 1024 (by omega) _ (fun t e => ?_) t e
  refine dbl_lastRows (fun t e => maskK (F := Ideal) y0 x1 y2 (ix2 t e)) 512 (by omega) _ (fun t e => ?_) t e
  refine dbl_lastRows (fun t e => maskK (F := Ideal) y0 x1 y2 (ix2 t e)) 256 (by omega) _ (fun t e => ?_) t e
  refine dbl_lastRows (fun t e => maskK (F := Ideal) y0 x1 y2 (ix2 t e)) 128 (by omega) _ (fun t e => ?_) t e
  refine dbl_lastRows (fun t e => maskK (F := Ideal) y0 x1 y2 (ix2 t e)) 64 (by omega) _ (fun t e => ?_) t e
  refine dbl_lastRows (fun t e => maskK (F := Ideal) y0 x1 y2 (ix2 t e)) 32 (by omega) _ (fun t e => ?_) t e
  refine dbl_lastRows (fun t e => maskK (F := Ideal) y0 x1 y2 (ix2 t e)) 16 (by omega) _ (fun t e => ?_) t e
  refine dbl_lastRows (fun t e => maskK (F := Ideal) y0 x1 y2 (ix2 t e)) 8 (by omega) _ (fun t e => ?_) t e
  refine dbl_lastRows (fun t e => maskK (F := Ideal) y0 x1 y2 (ix2 t e)) 4 (by omega) _ (fun t e => ?_) t e
  refine dbl_lastRows (fun t e => maskK (F := Ideal) y0 x1 y2 (ix2 t e)) 2 (by omega) _ (fun t e => ?_) t e
  refine dbl_lastRows (fun t e => maskK (F := Ideal) y0 x1 y2 (ix2 t e)) 1 (by omega) _ (fun t e => ?_) t e
  unfold lastRows
  rw [Finset.sum_range_one, dif_pos ⟨Nat.zero_le _, by have := t.isLt; omega⟩]
  rfl

/-- A host windowed sum from zero is the sum over the window's positions that fall inside the operand. -/
theorem reduceWindowAdd_sum {s t : Shape} (window strides lo hi : Fin s.rank → Nat) (h : s.ReduceWindows window strides lo hi t)
    (x : s.Idx → EReal) (j : t.Idx) :
    Ideal.hostReduceWindowAdd window strides lo hi h x 0 j
      = ∑ i : (⟨s.rank, window⟩ : Shape).Idx,
          if hin : ∀ a, lo a ≤ (j (a.cast h.1.symm)).val * strides a + (i a).val
              ∧ (j (a.cast h.1.symm)).val * strides a + (i a).val - lo a < s.size a
            then x (fun a => ⟨(j (a.cast h.1.symm)).val * strides a + (i a).val - lo a, (hin a).2⟩) else 0 := by
  have hfold : ∀ {n : Nat} (g : Fin n → EReal) (l : List (Fin n)) (c : EReal), l.foldl (fun r k => r + g k) c = c + (l.map g).sum := by
    intro n g l
    induction l with
    | nil => intro c; simp
    | cons a l ih => intro c; simp [ih, add_assoc]
  unfold Ideal.hostReduceWindowAdd Host.reduceWindow
  dsimp only
  refine (hfold _ _ _).trans ?_
  rw [zero_add, ← Equiv.sum_comp (⟨s.rank, window⟩ : Shape).rowMajor.symm, ← List.ofFn_eq_map, List.sum_ofFn]
  refine Finset.sum_congr rfl fun i _ => ?_
  by_cases hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
  · rw [dif_pos hin, dif_pos hin]
  · rw [dif_neg hin, dif_neg hin]

/-- The reference's running count at an index. -/
theorem ref_count (m : FVec Ideal S2048x8 .f32) (init : FVec Ideal Cert.ReferenceIdeal.S_ .f32)
    (h0 : ∀ i, (init i : EReal) = 0) (h) (hu) (t : Fin 2048) (e : Fin 8) :
    Host.reduceWindowAdd ![2048, 1] ![1, 1] ![2047, 0] ![0, 0] m init h hu (ix2 t e)
      = lastRows (fun t => (m (ix2 t e) : EReal)) 2048 t.val := by
  show Ideal.hostReduceWindowAdd ![2048, 1] ![1, 1] ![2047, 0] ![0, 0] h m (init _) (ix2 t e) = _
  rw [h0, reduceWindowAdd_sum, sum_idx2]
  unfold lastRows
  rw [Finset.sum_range, ← Equiv.sum_comp (Fin.revPerm (n := 2048))]
  refine Finset.sum_congr rfl fun k _ => ?_
  have ht := t.isLt
  have hk := k.isLt
  have he := e.isLt
  rw [Fintype.sum_unique]
  have hr : ((Fin.revPerm k : Fin 2048) : Nat) = 2047 - k.val := by
    show (Fin.rev k).val = _
    rw [Fin.val_rev]; omega
  by_cases hkt : k.val ≤ t.val ∧ t.val - k.val < 2048
  · rw [dif_pos hkt, dif_pos]
    · refine congrArg m (funext fun a => Fin.ext ?_)
      match a with
      | ⟨0, _⟩ =>
        show t.val * 1 + (Fin.revPerm k : Fin 2048).val - 2047 = t.val - k.val
        omega
      | ⟨1, _⟩ =>
        show e.val * 1 + 0 - 0 = e.val
        omega
    · intro a
      match a with
      | ⟨0, _⟩ =>
        show 2047 ≤ t.val * 1 + (Fin.revPerm k : Fin 2048).val ∧ t.val * 1 + (Fin.revPerm k : Fin 2048).val - 2047 < 2048
        omega
      | ⟨1, _⟩ =>
        show 0 ≤ e.val * 1 + 0 ∧ e.val * 1 + 0 - 0 < 8
        omega
  · rw [dif_neg hkt, dif_neg]
    intro hin
    have h1 : 2047 ≤ t.val * 1 + (Fin.revPerm k : Fin 2048).val ∧ t.val * 1 + (Fin.revPerm k : Fin 2048).val - 2047 < 2048 := hin 0
    omega

end Cert.KernelIdeal.Hand
-- ==== Proof.Route.lean ====
/-
  The routing of both programs in numbers: who is routed where, the running counts, who is kept, and the slots.
-/
module

public import proofs.«01_k».proof.Proof.Finite
public import proofs.«01_k».proof.Proof.Count

@[expose] public section

set_option maxRecDepth 16384

noncomputable section

namespace Cert.KernelIdeal.Hand

open Cert.ReferenceIdeal Cert.ReferenceIdeal.Read
open Idealize.ShloMosaic Idealize.ShloMosaic.ValueIdx Idealize.ShloMosaic.Routing

/-- The sum of all the rows up to row `t`. -/
theorem lastRows_all (m : Fin 2048 → EReal) (t : Fin 2048) : lastRows m 2048 t.val = ∑ s : Fin 2048, if s ≤ t then m s else 0 := by
  unfold lastRows
  rw [← Finset.sum_filter]
  rw [← Finset.sum_filter_add_sum_filter_not (Finset.range 2048) (fun r => r ≤ t.val)]
  have h2 : (∑ r ∈ (Finset.range 2048).filter (fun r => ¬ r ≤ t.val), if h : r ≤ t.val ∧ t.val - r < 2048 then m ⟨t.val - r, h.2⟩ else 0) = 0 := by
    refine Finset.sum_eq_zero fun r hr => ?_
    rw [dif_neg fun h => (Finset.mem_filter.mp hr).2 h.1]
  rw [h2, add_zero]
  have ht := t.isLt
  refine Finset.sum_bij' (fun r _ => (⟨t.val - r, by omega⟩ : Fin 2048)) (fun s _ => t.val - s.val) ?_ ?_ ?_ ?_ ?_
  · intro r hr
    rw [Finset.mem_filter]
    refine ⟨Finset.mem_univ _, ?_⟩
    rw [Fin.le_def]
    show t.val - r ≤ t.val
    omega
  · intro s hs
    rw [Finset.mem_filter, Finset.mem_range]
    exact ⟨by omega, by omega⟩
  · intro r hr
    have := (Finset.mem_filter.mp hr).2
    show t.val - (t.val - r) = r
    omega
  · intro s hs
    have := Fin.le_def.mp (Finset.mem_filter.mp hs).2
    refine Fin.ext ?_
    show t.val - (t.val - s.val) = s.val
    omega
  · intro r hr
    have := (Finset.mem_filter.mp hr).2
    rw [dif_pos ⟨this, by omega⟩]

theorem coe_nat_sum {ι : Type} (s : Finset ι) (f : ι → Nat) : ((∑ k ∈ s, f k : Nat) : EReal) = ∑ k ∈ s, (f k : EReal) := by
  classical
  induction s using Finset.induction_on with
  | empty => simp
  | insert a s ha ih => rw [Finset.sum_insert ha, Finset.sum_insert ha, Nat.cast_add, ih]

section
variable (x0 : FVec Ideal S1x2048x768 .f32) (x1 : FVec Ideal S8x768 .f32) (x2 : FVec Ideal S1 .f32)

/-- A token is routed to an expert. -/
def Routed (t : Fin 2048) (e : Fin 8) : Prop := e = pick x0 x1 x2 t 0 ∨ e = pick x0 x1 x2 t 1

instance (t : Fin 2048) (e : Fin 8) : Decidable (Routed x0 x1 x2 t e) :=
  inferInstanceAs (Decidable (e = pick x0 x1 x2 t 0 ∨ e = pick x0 x1 x2 t 1))

/-- How many tokens up to `t` are routed to an expert. -/
def cnt (t : Fin 2048) (e : Fin 8) : Nat := ∑ s : Fin 2048, if s ≤ t ∧ Routed x0 x1 x2 s e then 1 else 0

/-- The assignment is within the expert's capacity. -/
def Kept (t : Fin 2048) (e : Fin 8) : Prop := Routed x0 x1 x2 t e ∧ cnt x0 x1 x2 t e ≤ 640

instance (t : Fin 2048) (e : Fin 8) : Decidable (Kept x0 x1 x2 t e) :=
  inferInstanceAs (Decidable (Routed x0 x1 x2 t e ∧ cnt x0 x1 x2 t e ≤ 640))

/-- A routed token counts itself. -/
theorem cnt_pos (t : Fin 2048) (e : Fin 8) (h : Routed x0 x1 x2 t e) : 0 < cnt x0 x1 x2 t e := by
  unfold cnt
  refine Finset.sum_pos' (fun _ _ => Nat.zero_le _) ⟨t, Finset.mem_univ _, ?_⟩
  rw [if_pos ⟨le_refl _, h⟩]
  exact Nat.one_pos

theorem cnt_le (t : Fin 2048) (e : Fin 8) : cnt x0 x1 x2 t e ≤ 2048 := by
  unfold cnt
  refine (Finset.sum_le_card_nsmul _ _ 1 fun s _ => ?_).trans ?_
  · split <;> omega
  · simp

/-- A later routed token has a greater count. -/
theorem cnt_lt (s t : Fin 2048) (e : Fin 8) (h : Routed x0 x1 x2 t e) (hst : s < t) : cnt x0 x1 x2 s e < cnt x0 x1 x2 t e := by
  unfold cnt
  refine Finset.sum_lt_sum (fun r _ => ?_) ⟨t, Finset.mem_univ _, ?_⟩
  · by_cases hr : r ≤ s ∧ Routed x0 x1 x2 r e
    · rw [if_pos hr, if_pos ⟨hr.1.trans hst.le, hr.2⟩]
    · rw [if_neg hr]
      exact Nat.zero_le _
  · rw [if_neg fun hr => absurd hr.1 (not_le.mpr hst), if_pos ⟨le_refl _, h⟩]
    exact Nat.one_pos

/-- Two routed tokens of one expert have different counts. -/
theorem cnt_inj (s t : Fin 2048) (e : Fin 8) (hs : Routed x0 x1 x2 s e) (ht : Routed x0 x1 x2 t e)
    (h : cnt x0 x1 x2 s e = cnt x0 x1 x2 t e) : s = t := by
  rcases lt_trichotomy s t with h1 | h1 | h1
  · exact absurd h (cnt_lt x0 x1 x2 s t e ht h1).ne
  · exact h1
  · exact absurd h (cnt_lt x0 x1 x2 t s e hs h1).ne'

theorem refMask (t : Fin 2048) (e : Fin 8) : val_main_v36 (F := Ideal) x0 x1 x2 (ix2 t e) = if Routed x0 x1 x2 t e then (1 : EReal) else 0 :=
  refMask_apply x0 x1 x2 t e

/-- The reference's running count is the number of tokens. -/
theorem refCount (t : Fin 2048) (e : Fin 8) : val_main_v55 (F := Ideal) x0 x1 x2 (ix2 t e) = ((cnt x0 x1 x2 t e : Nat) : EReal) := by
  refine (ref_count (val_main_v36 (F := Ideal) x0 x1 x2) (val_main_call2_call0_v0 (F := Ideal)) (fun i => ?_) _ _ t e).trans ?_
  · exact Ideal.ofBits_zero_f32
  · rw [lastRows_all]
    unfold cnt
    rw [coe_nat_sum]
    refine Finset.sum_congr rfl fun s _ => ?_
    rw [refMask]
    by_cases h1 : s ≤ t
    · by_cases h2 : Routed x0 x1 x2 s e
      · simp [h1, h2]
      · simp [h1, h2]
    · simp [h1]

theorem ofBits_640 : Ideal.ofBits .f32 0x44200000#32 = ((640 : Nat) : EReal) := by
  have : Ideal.ofBits .f32 0x44200000#32 = ((640 : ℝ) : EReal) := by
    simp [Ideal.ofBits, Ideal.ieee]
    rw [← EReal.coe_mul]
    norm_num
  rw [this]
  norm_cast

theorem le_640 (n : Nat) : decide (((n : Nat) : EReal) ≤ Ideal.ofBits .f32 0x44200000#32) = decide (n ≤ 640) := by
  rw [ofBits_640]
  exact decide_eq_decide.mpr (by exact_mod_cast Iff.rfl)

theorem bit_mul {p q : Prop} [Decidable p] [Decidable q] {c : EReal} (hc : c = if q then (1 : EReal) else 0) :
    (if p then (1 : EReal) else 0) * c = if p ∧ q then (1 : EReal) else 0 := by
  rw [hc]
  by_cases hp : p
  · by_cases hq : q
    · rw [if_pos hp, if_pos hq, if_pos ⟨hp, hq⟩, one_mul]
    · rw [if_neg hq, mul_zero, if_neg (fun h : p ∧ q => hq h.2)]
  · rw [if_neg hp, zero_mul, if_neg (fun h : p ∧ q => hp h.1)]

theorem bit_unsigned (n : Nat) :
    ((((BitVec.ofBool (decide (((n : Nat) : EReal) ≤ Ideal.ofBits .f32 0x44200000#32))).toNat : ℝ)) : EReal) = if n ≤ 640 then (1 : EReal) else 0 := by
  rw [le_640]
  by_cases h : n ≤ 640 <;> simp [h]

theorem bit_signed (n : Nat) :
    (((((BitVec.ofBool (decide (((n : Nat) : EReal) ≤ Ideal.ofBits .f32 0x44200000#32))).setWidth 32).toInt : ℝ)) : EReal)
      = if n ≤ 640 then (1 : EReal) else 0 := by
  rw [le_640]
  by_cases h : n ≤ 640 <;> simp [h]

/-- The reference's kept assignments. -/
theorem refKeep (t : Fin 2048) (e : Fin 8) : val_main_v59 (F := Ideal) x0 x1 x2 (ix2 t e) = if Kept x0 x1 x2 t e then (1 : EReal) else 0 := by
  rw [val_main_v59_apply, val_main_v58_apply, val_main_v57_apply, val_main_v56_apply, refMask, refCount]
  show (if Routed x0 x1 x2 t e then (1 : EReal) else 0)
    * ((((BitVec.ofBool (decide (((cnt x0 x1 x2 t e : Nat) : EReal) ≤ Ideal.ofBits .f32 0x44200000#32))).toNat : ℝ)) : EReal) = _
  exact bit_mul (p := Routed x0 x1 x2 t e) (q := cnt x0 x1 x2 t e ≤ 640) (bit_unsigned (cnt x0 x1 x2 t e))

end

variable (x0 : FVec Ideal S1x2048x768 .f32) (x1 : FVec Ideal S8x768 .f32) (x2 : FVec Ideal S1 .f32)
  (y2 : FVec Ideal Cert.KernelIdeal.S1x1 .f32) (h2 : y2 (ix2 (0 : Fin 1) (0 : Fin 1)) = x2 (ix1 (0 : Fin 1)))
  (h0 : ∀ i, ∃ r : ℝ, x0 i = (r : EReal)) (h1 : ∀ i, ∃ r : ℝ, x1 i = (r : EReal))

include h2 in
theorem rowP_eq (t : Fin 2048) : rowP (val_main_v0 (F := Ideal) x0) x1 y2 t = rowR x0 x1 x2 t := by
  funext e
  exact congrFun (probs_eq x0 x1 x2 y2 h2) (ix2 t e)

include h0 h1 h2 in
/-- The kernel's mask is the reference's. -/
theorem kMask (t : Fin 2048) (e : Fin 8) :
    maskK (F := Ideal) (val_main_v0 (F := Ideal) x0) x1 y2 (ix2 t e) = if Routed x0 x1 x2 t e then (1 : EReal) else 0 := by
  refine maskK_apply (val_main_v0 (F := Ideal) x0) x1 y2 t (a := pick x0 x1 x2 t 0) (b := pick x0 x1 x2 t 1) ?_ ?_ e
  · rw [rowP_eq x0 x1 x2 y2 h2]
    exact pick_top2 x0 x1 x2 t
  · rw [rowP_eq x0 x1 x2 y2 h2]
    obtain ⟨r, -, hr⟩ := rowR_real x0 x1 x2 h0 h1 t (pick x0 x1 x2 t 1)
    rw [hr]
    exact EReal.coe_ne_bot r

include h0 h1 h2 in
/-- The kernel's running count is the number of tokens. -/
theorem kCount (t : Fin 2048) (e : Fin 8) : cumK (val_main_v0 (F := Ideal) x0) x1 y2 (ix2 t e) = ((cnt x0 x1 x2 t e : Nat) : EReal) := by
  rw [cumK_apply, lastRows_all]
  unfold cnt
  rw [coe_nat_sum]
  refine Finset.sum_congr rfl fun s _ => ?_
  have := kMask x0 x1 x2 y2 h2 h0 h1 s e
  rw [this]
  by_cases h1 : s ≤ t
  · by_cases h2 : Routed x0 x1 x2 s e
    · simp [h1, h2]
    · simp [h1, h2]
  · simp [h1]

include h0 h1 h2 in
/-- The kernel's kept assignments are the reference's. -/
theorem kKeep (t : Fin 2048) (e : Fin 8) :
    keepK (F := Ideal) (val_main_v0 (F := Ideal) x0) x1 y2 (ix2 t e) = if Kept x0 x1 x2 t e then (1 : EReal) else 0 := by
  have hu : keepK (F := Ideal) (val_main_v0 (F := Ideal) x0) x1 y2 (ix2 t e)
      = (maskK (F := Ideal) (val_main_v0 (F := Ideal) x0) x1 y2 (ix2 t e) : EReal)
        * (((((BitVec.ofBool (decide ((cumK (val_main_v0 (F := Ideal) x0) x1 y2 (ix2 t e) : EReal) ≤ Ideal.ofBits .f32 0x44200000#32))).setWidth 32).toInt : ℝ)) : EReal) := rfl
  rw [hu, kMask x0 x1 x2 y2 h2 h0 h1, kCount x0 x1 x2 y2 h2 h0 h1]
  exact bit_mul (p := Routed x0 x1 x2 t e) (q := cnt x0 x1 x2 t e ≤ 640) (bit_signed (cnt x0 x1 x2 t e))

include h0 h1 h2 in
theorem mask_eq : maskK (F := Ideal) (val_main_v0 (F := Ideal) x0) x1 y2 = val_main_v36 (F := Ideal) x0 x1 x2 := by
  funext i
  rw [eq_ix2 i]
  exact (kMask x0 x1 x2 y2 h2 h0 h1 (i 0) (i 1)).trans (refMask x0 x1 x2 (i 0) (i 1)).symm

include h0 h1 h2 in
theorem keep_eq : keepK (F := Ideal) (val_main_v0 (F := Ideal) x0) x1 y2 = val_main_v59 (F := Ideal) x0 x1 x2 := by
  funext i
  rw [eq_ix2 i]
  exact (kKeep x0 x1 x2 y2 h2 h0 h1 (i 0) (i 1)).trans (refKeep x0 x1 x2 (i 0) (i 1)).symm

end Cert.KernelIdeal.Hand
-- ==== Proof.Scalars.lean ====
/-
  The three scalar results: load balance, entropy and overflow.
-/
module

public import proofs.«01_k».proof.Proof.Route

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-- The sum of a column over the tokens. -/
theorem colSum_apply (x : FVec Ideal S2048x8 .f32) (e : Fin 8) :
    multiReduction .add [0] S8 x 0x00000000#32 reduces_S2048x8_S8 (.inl rfl) rfl (ix1 e) = ∑ t : Fin 2048, (x (ix2 t e) : EReal) := by
  refine (Ideal.multiReduction_add_single x 0x00000000#32 reduces_S2048x8_S8 (.inl rfl) rfl (ix1 e)).trans ?_
  refine Finset.sum_congr rfl fun k _ => congrArg x ?_
  funext a
  match a with
  | ⟨0, _⟩ => rfl
  | ⟨1, _⟩ => rfl

/-- The sum of a row of eight. -/
theorem sum8_apply (x : FVec Ideal S1x8 .f32) :
    multiReduction .add [1] S1 x 0x00000000#32 reduces_S1x8_S1 (.inl rfl) rfl (ix1 (0 : Fin 1)) = ∑ e : Fin 8, (x (ix2 (0 : Fin 1) e) : EReal) := by
  refine (Ideal.multiReduction_add_single x 0x00000000#32 reduces_S1x8_S1 (.inl rfl) rfl (ix1 (0 : Fin 1))).trans ?_
  refine Finset.sum_congr rfl fun k _ => congrArg x ?_
  funext a
  match a with
  | ⟨0, _⟩ => rfl
  | ⟨1, _⟩ => rfl

/-- The sum of a column of one value per token. -/
theorem sumCol_apply (x : FVec Ideal S2048x1 .f32) :
    multiReduction .add [0] S1 x 0x00000000#32 reduces_S2048x1_S1 (.inl rfl) rfl (ix1 (0 : Fin 1))
      = ∑ t : Fin 2048, (x (ix2 t (0 : Fin 1)) : EReal) := by
  refine (Ideal.multiReduction_add_single x 0x00000000#32 reduces_S2048x1_S1 (.inl rfl) rfl (ix1 (0 : Fin 1))).trans ?_
  refine Finset.sum_congr rfl fun k _ => congrArg x ?_
  funext a
  match a with
  | ⟨0, _⟩ => rfl
  | ⟨1, _⟩ => rfl

/-- A vector of eight seen as a row. -/
theorem rowCast_apply {α : Type} (v : S8.Idx → α) (e : Fin 8) : shapeCast S1x8 v shapeCasts_S8_S1x8 (ix2 (0 : Fin 1) e) = v (ix1 e) :=
  shapeCast_apply v shapeCasts_S8_S1x8 (ix2 (0 : Fin 1) e) (ix1 e) (by
    rw [Shape.rowMajor_val_one, Shape.rowMajor_val_two]
    show e.val = 0 * 8 + e.val
    omega)

/-- One value seen as a one by one matrix. -/
theorem cellCast_apply {α : Type} (v : S1.Idx → α) (j : S1x1.Idx) : shapeCast S1x1 v shapeCasts_S1_S1x1 j = v (ix1 (0 : Fin 1)) :=
  shapeCast_apply v shapeCasts_S1_S1x1 j (ix1 (0 : Fin 1)) (by
    rw [Shape.rowMajor_val_one, Shape.rowMajor_val_two]
    have h0 : (j 0).val < 1 := (j 0).isLt
    have h1 : (j 1).val < 1 := (j 1).isLt
    show 0 = (j 0).val * 1 + (j 1).val
    omega)

theorem ix1_sum {n : Nat} (f : (⟨1, ![n]⟩ : Shape).Idx → EReal) : ∑ j, f j = ∑ k : Fin n, f (ix1 k) := by
  refine (Fintype.sum_bijective (fun k : Fin n => ix1 k) ⟨?_, ?_⟩ _ _ fun _ => rfl).symm
  · intro a b h
    exact congrFun h 0
  · intro j
    exact ⟨j 0, (eq_ix1 j).symm⟩

/-- The kernel's load-balance scalar from any probabilities and mask. -/
theorem pay14_apply (p m : FVec Ideal S2048x8 .f32) (j : S1x1.Idx) :
    k0_pay14 (F := Ideal) p m j
      = (∑ e : Fin 8, Ideal.div (∑ t : Fin 2048, (p (ix2 t e) : EReal)) (Ideal.ofBits .f32 0x45000000#32)
          * Ideal.div (∑ t : Fin 2048, (m (ix2 t e) : EReal)) (Ideal.ofBits .f32 0x45000000#32))
        * Ideal.ofBits .f32 0x41000000#32 * Ideal.ofBits .f32 0x3C23D70A#32 := by
  refine congrArg (fun s : EReal => s * Ideal.ofBits .f32 0x41000000#32 * Ideal.ofBits .f32 0x3C23D70A#32) ?_
  refine (cellCast_apply _ j).trans ((sum8_apply _).trans (Finset.sum_congr rfl fun e _ => ?_))
  exact congrArg₂ (fun a b : EReal => Ideal.div a (Ideal.ofBits .f32 0x45000000#32) * Ideal.div b (Ideal.ofBits .f32 0x45000000#32))
    ((rowCast_apply _ e).trans (colSum_apply p e)) ((rowCast_apply _ e).trans (colSum_apply m e))

/-- The kernel's entropy scalar from any probabilities. -/
theorem pay15_apply (p : FVec Ideal S2048x8 .f32) (j : S1x1.Idx) :
    k0_pay15 (F := Ideal) p j
      = Ideal.div (∑ t : Fin 2048, ((0 : EReal) - ∑ e : Fin 8, (p (ix2 t e) : EReal) * Ideal.log (max (Ideal.ofBits .f32 0x322BCC77#32) (p (ix2 t e)))))
          (Ideal.ofBits .f32 0x45000000#32) * Ideal.ofBits .f32 0x3C23D70A#32 := by
  refine congrArg (fun s : EReal => Ideal.div s (Ideal.ofBits .f32 0x45000000#32) * Ideal.ofBits .f32 0x3C23D70A#32) ?_
  refine (cellCast_apply _ j).trans ((sumCol_apply _).trans (Finset.sum_congr rfl fun t _ => ?_))
  refine congrArg₂ (fun a b : EReal => a - b) Ideal.ofBits_zero_f32 ?_
  refine (colCast_apply _ _).trans (rowSum_apply _ _)

/-- The kernel's overflow scalar from any mask and kept assignments. -/
theorem pay17_apply (m k : FVec Ideal S2048x8 .f32) (j : S1x1.Idx) :
    k0_pay17 (F := Ideal) m k j
      = Ideal.div (∑ e : Fin 8, ((∑ t : Fin 2048, (m (ix2 t e) : EReal)) - ∑ t : Fin 2048, (k (ix2 t e) : EReal)))
          (max (∑ e : Fin 8, ∑ t : Fin 2048, (m (ix2 t e) : EReal)) 1) := by
  refine congrArg₂ Ideal.div ?_ (congrArg₂ (fun a b : EReal => max a b) ?_ Ideal.ofBits_one_f32)
  · refine (cellCast_apply _ j).trans ((sum8_apply _).trans (Finset.sum_congr rfl fun e _ => ?_))
    exact congrArg₂ (fun a b : EReal => a - b) ((rowCast_apply _ e).trans (colSum_apply m e)) ((rowCast_apply _ e).trans (colSum_apply k e))
  · refine (cellCast_apply _ j).trans ((sum8_apply _).trans (Finset.sum_congr rfl fun e _ => ?_))
    exact (rowCast_apply _ e).trans (colSum_apply m e)

variable (x0 : FVec Ideal Cert.ReferenceIdeal.S1x2048x768 .f32) (x1 : FVec Ideal S8x768 .f32) (x2 : FVec Ideal Cert.ReferenceIdeal.S1 .f32)

theorem refAux (i : Cert.ReferenceIdeal.S_.Idx) : val_main_v46 (F := Ideal) x0 x1 x2 i
      = (∑ e : Fin 8, Ideal.div (∑ t : Fin 2048, (val_main_v17 (F := Ideal) x0 x1 x2 (ix2 t e) : EReal)) (Ideal.ofBits .f32 0x45000000#32)
          * Ideal.div (∑ t : Fin 2048, (val_main_v36 (F := Ideal) x0 x1 x2 (ix2 t e) : EReal)) (Ideal.ofBits .f32 0x45000000#32))
        * Ideal.ofBits .f32 0x41000000#32 * Ideal.ofBits .f32 0x3C23D70A#32 := by
  rw [val_main_v46_apply, val_main_v45_apply]
  refine congrArg (fun s : EReal => s * Ideal.ofBits .f32 0x41000000#32 * Ideal.ofBits .f32 0x3C23D70A#32) ?_
  rw [val_main_v44_apply]
  refine (congrArg (fun z : EReal => z + _) (show val_main_cst_13 (F := Ideal) (Shape.Idx.first Cert.ReferenceIdeal.Gen.facts.h_S_) = (0 : EReal)
    from Ideal.ofBits_zero_f32)).trans ?_
  rw [zero_add]
  refine (ix1_sum _).trans (Finset.sum_congr rfl fun e _ => ?_)
  rw [val_main_v43_apply, val_main_v39_apply, val_main_v42_apply, val_main_v37_apply, val_main_v40_apply, val_main_v38_apply, val_main_v41_apply]
  have hz : ∀ s : EReal, Ideal.ofBits .f32 0x00000000#32 + s = s := fun s => by rw [Ideal.ofBits_zero_f32, zero_add]
  refine congrArg₂ (fun a b : EReal => Ideal.div a (Ideal.ofBits .f32 0x45000000#32) * Ideal.div b (Ideal.ofBits .f32 0x45000000#32)) ?_ ?_
  · refine (hz _).trans (Finset.sum_congr rfl fun t _ => congrArg (val_main_v17 (F := Ideal) x0 x1 x2) ?_)
    funext a
    match a with
    | ⟨0, _⟩ => rfl
    | ⟨1, _⟩ => rfl
  · refine (hz _).trans (Finset.sum_congr rfl fun t _ => congrArg (val_main_v36 (F := Ideal) x0 x1 x2) ?_)
    funext a
    match a with
    | ⟨0, _⟩ => rfl
    | ⟨1, _⟩ => rfl

theorem refEnt (i : Cert.ReferenceIdeal.S_.Idx) : val_main_v54 (F := Ideal) x0 x1 x2 i
      = -(Ideal.div (∑ t : Fin 2048, ∑ e : Fin 8, (val_main_v17 (F := Ideal) x0 x1 x2 (ix2 t e) : EReal)
            * Ideal.log (max (Ideal.ofBits .f32 0x322BCC77#32) (val_main_v17 (F := Ideal) x0 x1 x2 (ix2 t e))))
          (Ideal.ofBits .f32 0x45000000#32)) * Ideal.ofBits .f32 0x3C23D70A#32 := by
  rw [val_main_v54_apply, val_main_v53_apply, val_main_v52_apply]
  refine congrArg (fun s : EReal => -(Ideal.div s (Ideal.ofBits .f32 0x45000000#32)) * Ideal.ofBits .f32 0x3C23D70A#32) ?_
  have hz : ∀ s : EReal, Ideal.ofBits .f32 0x00000000#32 + s = s := fun s => by rw [Ideal.ofBits_zero_f32, zero_add]
  rw [val_main_v51_apply]
  refine (hz _).trans ((ix1_sum _).trans (Finset.sum_congr rfl fun t _ => ?_))
  rw [val_main_v50_apply]
  refine (hz _).trans (Finset.sum_congr rfl fun e _ => ?_)
  have hx : idx_main_v50 (ix1 t) e = ix2 t e := by
    funext a
    match a with
    | ⟨0, _⟩ => rfl
    | ⟨1, _⟩ => rfl
  rw [hx, val_main_v49_apply, val_main_v48_apply, val_main_v47_apply, val_main_call1_v1_apply]
  rfl

theorem refOvf (i : Cert.ReferenceIdeal.S_.Idx) : val_main_v70 (F := Ideal) x0 x1 x2 i
      = Ideal.div (∑ e : Fin 8, ((∑ t : Fin 2048, (val_main_v36 (F := Ideal) x0 x1 x2 (ix2 t e) : EReal))
            - ∑ t : Fin 2048, (val_main_v59 (F := Ideal) x0 x1 x2 (ix2 t e) : EReal)))
          (max (∑ e : Fin 8, ∑ t : Fin 2048, (val_main_v36 (F := Ideal) x0 x1 x2 (ix2 t e) : EReal)) 1) := by
  have hz : ∀ s : EReal, Ideal.ofBits .f32 0x00000000#32 + s = s := fun s => by rw [Ideal.ofBits_zero_f32, zero_add]
  rw [val_main_v70_apply, val_main_v69_apply]
  refine congrArg₂ Ideal.div ?_ (congrArg₂ (fun a b : EReal => max a b) ?_ Ideal.ofBits_one_f32)
  · rw [val_main_v67_apply]
    refine (hz _).trans ((ix1_sum _).trans (Finset.sum_congr rfl fun e _ => ?_))
    rw [val_main_v66_apply, val_main_v64_apply, val_main_v65_apply]
    refine congrArg₂ (fun a b : EReal => a - b) ?_ ?_
    · refine (hz _).trans (Finset.sum_congr rfl fun t _ => congrArg (val_main_v36 (F := Ideal) x0 x1 x2) ?_)
      funext a
      match a with
      | ⟨0, _⟩ => rfl
      | ⟨1, _⟩ => rfl
    · refine (hz _).trans (Finset.sum_congr rfl fun t _ => congrArg (val_main_v59 (F := Ideal) x0 x1 x2) ?_)
      funext a
      match a with
      | ⟨0, _⟩ => rfl
      | ⟨1, _⟩ => rfl
  · rw [val_main_v68_apply]
    refine (hz _).trans ((sum_idx2 _).trans ?_)
    exact Finset.sum_comm

variable (y2 : FVec Ideal S1x1 .f32) (h2 : y2 (ix2 (0 : Fin 1) (0 : Fin 1)) = x2 (ix1 (0 : Fin 1)))
  (h0 : ∀ i, ∃ r : ℝ, x0 i = (r : EReal)) (h1 : ∀ i, ∃ r : ℝ, x1 i = (r : EReal))

include h0 h1 h2 in
/-- The load-balance result of both programs is one number. -/
theorem aux_eq (j : S1x1.Idx) (i : Cert.ReferenceIdeal.S_.Idx) :
    auxK (F := Ideal) (val_main_v0 (F := Ideal) x0) x1 y2 j = val_main_v46 (F := Ideal) x0 x1 x2 i := by
  unfold auxK
  rw [mask_eq x0 x1 x2 y2 h2 h0 h1, probs_eq x0 x1 x2 y2 h2, refAux]
  exact pay14_apply _ _ j

include h0 h1 h2 in
/-- So is the overflow. -/
theorem ovf_eq (j : S1x1.Idx) (i : Cert.ReferenceIdeal.S_.Idx) :
    ovfK (F := Ideal) (val_main_v0 (F := Ideal) x0) x1 y2 j = val_main_v70 (F := Ideal) x0 x1 x2 i := by
  unfold ovfK
  rw [mask_eq x0 x1 x2 y2 h2 h0 h1, keep_eq x0 x1 x2 y2 h2 h0 h1, refOvf]
  exact pay17_apply _ _ j

include h0 h1 h2 in
/-- And the entropy: the kernel negates each token's sum, the reference the mean. -/
theorem ent_eq (j : S1x1.Idx) (i : Cert.ReferenceIdeal.S_.Idx) :
    entK (F := Ideal) (val_main_v0 (F := Ideal) x0) x1 y2 j = val_main_v54 (F := Ideal) x0 x1 x2 i := by
  unfold entK
  rw [probs_eq x0 x1 x2 y2 h2, refEnt]
  refine (pay15_apply _ j).trans ?_
  refine congrArg (fun s : EReal => s * Ideal.ofBits .f32 0x3C23D70A#32) ?_
  obtain ⟨l, hl, hl0⟩ : ∃ l : ℝ, Ideal.ofBits .f32 0x322BCC77#32 = (l : EReal) ∧ 0 < l := by
    refine ⟨_, by simp [Ideal.ofBits, Ideal.ieee]; rfl, by norm_num⟩
  obtain ⟨n, hn, hn0⟩ : ∃ n : ℝ, Ideal.ofBits .f32 0x45000000#32 = (n : EReal) ∧ 0 < n := by
    refine ⟨_, by simp [Ideal.ofBits, Ideal.ieee]; rfl, by norm_num⟩
  choose f hf0 hf using fun t e => rowR_real x0 x1 x2 h0 h1 t e
  have hs : ∀ t : Fin 2048, (∑ e : Fin 8, (val_main_v17 (F := Ideal) x0 x1 x2 (ix2 t e) : EReal)
        * Ideal.log (max (Ideal.ofBits .f32 0x322BCC77#32) (val_main_v17 (F := Ideal) x0 x1 x2 (ix2 t e))))
      = ((∑ e : Fin 8, f t e * Real.log (max l (f t e)) : ℝ) : EReal) := by
    intro t
    rw [coe_sum]
    refine Finset.sum_congr rfl fun e _ => ?_
    have hv : (val_main_v17 (F := Ideal) x0 x1 x2 (ix2 t e) : EReal) = (f t e : EReal) := hf t e
    rw [hv, hl, ← EReal.coe_strictMono.monotone.map_max, Ideal.log_coe, if_neg (not_le.mpr (lt_max_of_lt_left hl0)), EReal.coe_mul]
  simp only [hs]
  rw [← coe_sum, hn, div_coe _ _ hn0.ne', ← EReal.coe_neg]
  have hk : ∀ r : ℝ, (0 : EReal) - (r : EReal) = ((-r : ℝ) : EReal) := fun r => by rw [zero_sub, EReal.coe_neg]
  simp only [hk]
  rw [← coe_sum, div_coe _ _ hn0.ne', Finset.sum_neg_distrib, neg_div]

end Cert.KernelIdeal.Hand
-- ==== Proof.Expert.lean ====
/-
  One expert's contribution in the kernel: its buffer, its feed-forward product and the combine.
-/
module

public import proofs.«01_k».proof.Proof.Scalars

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-! ## The pieces of a grid point at an index -/

/-- The indicator of the grid point's expert. -/
theorem pay18_apply (i : grid0.Coords) (a : Fin 8) (ha : (i 0).val = a.val) (t : Fin 2048) (e : Fin 8) :
    k0_pay18 (F := Ideal) i (ix2 t e) = if e = a then (1 : EReal) else 0 := by
  show ((((IntOp.cmpi .eq (laneK (ix2 t e)) (BitVec.ofNat 32 (i 0).val)).setWidth 32).toInt : ℝ) : EReal) = _
  rw [laneK_apply, ha]
  show ((((BitVec.ofBool (BitVec.ofNat 32 e.val == BitVec.ofNat 32 a.val)).setWidth 32).toInt : ℝ) : EReal) = _
  have hb : (BitVec.ofNat 32 e.val == BitVec.ofNat 32 a.val) = decide (e = a) := by
    rw [Bool.eq_iff_iff, beq_iff_eq, lane_eq_iff, decide_eq_true_iff]
  rw [hb]
  by_cases h : e = a <;> simp [h]

/-- The row sum against the indicator picks the expert's entry. -/
theorem pickCol (i : grid0.Coords) (a : Fin 8) (ha : (i 0).val = a.val) (v : FVec Ideal S2048x8 .f32) (t : Fin 2048) :
    (∑ e : Fin 8, (mulf v (k0_pay18 (F := Ideal) i) (ix2 t e) : EReal)) = v (ix2 t a) := by
  have h : ∀ e : Fin 8, (mulf v (k0_pay18 (F := Ideal) i) (ix2 t e) : EReal) = if e = a then (v (ix2 t a) : EReal) else 0 := by
    intro e
    show (v (ix2 t e) : EReal) * (k0_pay18 (F := Ideal) i (ix2 t e) : EReal) = _
    rw [pay18_apply i a ha]
    by_cases hh : e = a
    · rw [if_pos hh, if_pos hh, mul_one, hh]
    · rw [if_neg hh, if_neg hh, mul_zero]
  simp only [h]
  rw [Finset.sum_ite_eq' Finset.univ a]
  simp

/-- The expert's combine weight of a token. -/
theorem pay19_apply (i : grid0.Coords) (a : Fin 8) (ha : (i 0).val = a.val) (cf : FVec Ideal S2048x8 .f32) (t : Fin 2048) :
    k0_pay19 (F := Ideal) i cf (ix2 t (0 : Fin 1)) = cf (ix2 t a) := by
  refine (colCast_apply _ _).trans ((rowSum_apply _ _).trans ?_)
  exact pickCol i a ha cf t

/-- A column laid along the slots. -/
theorem slotBcast_apply {α : Type} (v : S2048x1.Idx → α) (t : Fin 2048) (c : Fin 640) :
    broadcastTo S2048x640 v broadcasts_S2048x1_S2048x640 (ix2 t c) = v (ix2 t (0 : Fin 1)) :=
  broadcastTo_apply v broadcasts_S2048x1_S2048x640 (ix2 t c) (ix2 t (0 : Fin 1)) (by
    intro a
    match a with
    | ⟨0, _⟩ => rfl
    | ⟨1, _⟩ => rfl)

/-- A column laid along the features. -/
theorem featBcast_apply {α : Type} (v : S2048x1.Idx → α) (t : Fin 2048) (d : Fin 768) :
    broadcastTo S2048x768 v broadcasts_S2048x1_S2048x768 (ix2 t d) = v (ix2 t (0 : Fin 1)) :=
  broadcastTo_apply v broadcasts_S2048x1_S2048x768 (ix2 t d) (ix2 t (0 : Fin 1)) (by
    intro a
    match a with
    | ⟨0, _⟩ => rfl
    | ⟨1, _⟩ => rfl)

/-- The dispatch matrix: one where the token's slot number is the column. -/
theorem pay20_apply (i : grid0.Coords) (a : Fin 8) (ha : (i 0).val = a.val) (pos : FVec Ideal S2048x8 .f32) (t : Fin 2048) (c : Fin 640) :
    k0_pay20 (F := Ideal) i pos (ix2 t c) = if Ideal.fptosi 32 (pos (ix2 t a)) = BitVec.ofNat 32 c.val then (1 : EReal) else 0 := by
  have hcol : (broadcastTo S2048x640 (shapeCast S2048x1 (shapeCast S2048x1 (multiReduction (F := Ideal) (φ := .f32) .add [1] S2048
        (mulf pos (k0_pay18 (F := Ideal) i)) 0x00000000#32 reduces_S2048x8_S2048 (.inl rfl) rfl) shapeCasts_S2048_S2048x1) shapeCasts_S2048x1_S2048x1)
        broadcasts_S2048x1_S2048x640 (ix2 t c) : EReal) = pos (ix2 t a) := by
    rw [slotBcast_apply, shapeCast_same]
    refine (colCast_apply _ _).trans ((rowSum_apply _ _).trans ?_)
    exact pickCol i a ha pos t
  have hiota : iota .tc S2048x640 32 [1] iota_S2048x640_d1_w32 (ix2 t c) = BitVec.ofNat 32 c.val :=
    iota_single_apply .tc S2048x640 32 1 iota_S2048x640_d1_w32 (ix2 t c)
  refine (congrArg₂ (fun (v : EReal) (w : BitVec 32) => ((((BitVec.ofBool (Ideal.fptosi 32 v == w)).setWidth 32).toInt : ℝ) : EReal)) hcol hiota).trans ?_
  by_cases h : Ideal.fptosi 32 (pos (ix2 t a)) = BitVec.ofNat 32 c.val
  · rw [if_pos h, h]; simp
  · rw [if_neg h, beq_false_of_ne h]; simp

/-! ## The products -/

theorem dispatchDot_apply (a : FVec Ideal S2048x640 .bf16) (b : FVec Ideal S2048x768 .bf16) (c : Fin 640) (d : Fin 768) :
    matmul dot_S2048x640_S2048x768_S640x768_0_0_1_1_n_n none a b (constant S640x768 .f32 0x00000000#32) (ix2 c d)
      = ∑ t : Fin 2048, (a (ix2 t c) : EReal) * (b (ix2 t d) : EReal) := by
  refine matmul_one dot_S2048x640_S2048x768_S640x768_0_0_1_1_n_n 2048 rfl rfl none a b (ix2 c d) _ _ (fun k => ?_) (fun k => ?_)
  · funext a
    match a with
    | ⟨0, _⟩ => rfl
    | ⟨1, _⟩ => rfl
  · funext a
    match a with
    | ⟨0, _⟩ => rfl
    | ⟨1, _⟩ => rfl

theorem upDot_apply (a : FVec Ideal S640x768 .f32) (b : FVec Ideal S1536x768 .f32) (c : Fin 640) (f : Fin 1536) :
    matmul dot_S640x768_S1536x768_S640x1536_1_1_0_0_n_n none a b (constant S640x1536 .f32 0x00000000#32) (ix2 c f)
      = ∑ d : Fin 768, (a (ix2 c d) : EReal) * (b (ix2 f d) : EReal) := by
  refine matmul_one dot_S640x768_S1536x768_S640x1536_1_1_0_0_n_n 768 rfl rfl none a b (ix2 c f) _ _ (fun k => ?_) (fun k => ?_)
  · funext a
    match a with
    | ⟨0, _⟩ => rfl
    | ⟨1, _⟩ => rfl
  · funext a
    match a with
    | ⟨0, _⟩ => rfl
    | ⟨1, _⟩ => rfl

theorem downDot_apply (a : FVec Ideal S640x1536 .f32) (b : FVec Ideal S768x1536 .f32) (c : Fin 640) (d : Fin 768) :
    matmul dot_S640x1536_S768x1536_S640x768_1_1_0_0_n_n none a b (constant S640x768 .f32 0x00000000#32) (ix2 c d)
      = ∑ f : Fin 1536, (a (ix2 c f) : EReal) * (b (ix2 d f) : EReal) := by
  refine matmul_one dot_S640x1536_S768x1536_S640x768_1_1_0_0_n_n 1536 rfl rfl none a b (ix2 c d) _ _ (fun k => ?_) (fun k => ?_)
  · funext a
    match a with
    | ⟨0, _⟩ => rfl
    | ⟨1, _⟩ => rfl
  · funext a
    match a with
    | ⟨0, _⟩ => rfl
    | ⟨1, _⟩ => rfl

theorem combineDot_apply (a : FVec Ideal S2048x640 .bf16) (b : FVec Ideal S640x768 .bf16) (t : Fin 2048) (d : Fin 768) :
    matmul dot_S2048x640_S640x768_S2048x768_1_0_0_1_n_n none a b (constant S2048x768 .f32 0x00000000#32) (ix2 t d)
      = ∑ c : Fin 640, (a (ix2 t c) : EReal) * (b (ix2 c d) : EReal) := by
  refine matmul_one dot_S2048x640_S640x768_S2048x768_1_0_0_1_n_n 640 rfl rfl none a b (ix2 t d) _ _ (fun k => ?_) (fun k => ?_)
  · funext a
    match a with
    | ⟨0, _⟩ => rfl
    | ⟨1, _⟩ => rfl
  · funext a
    match a with
    | ⟨0, _⟩ => rfl
    | ⟨1, _⟩ => rfl

/-! ## The expert -/

/-- A product of a buffer row with a weight row. -/
def proj (b : Fin 640 → Fin 768 → EReal) (w : Fin 1536 → Fin 768 → EReal) (c : Fin 640) (f : Fin 1536) : EReal :=
  ∑ d : Fin 768, b c d * w f d

/-- The gated feed-forward product of an expert on a buffer. -/
def ffn (b : Fin 640 → Fin 768 → EReal) (wg wu : Fin 1536 → Fin 768 → EReal) (wd : Fin 768 → Fin 1536 → EReal) (c : Fin 640) (d : Fin 768) : EReal :=
  ∑ f : Fin 1536, proj b wu c f * Ideal.logistic (proj b wu c f) * proj b wg c f * wd d f

theorem slabCast3 {α : Type} (v : S1x1536x768.Idx → α) (f : Fin 1536) (d : Fin 768) :
    shapeCast S1536x768 v shapeCasts_S1x1536x768_S1536x768 (ix2 f d) = v (ix3 (0 : Fin 1) f d) :=
  shapeCast_apply v shapeCasts_S1x1536x768_S1536x768 (ix2 f d) (ix3 (0 : Fin 1) f d) (by
    rw [Shape.rowMajor_val_two, Shape.rowMajor_val_three]
    show (0 * 1536 + f.val) * 768 + d.val = f.val * 768 + d.val
    omega)

theorem slabCast5 {α : Type} (v : S1x768x1536.Idx → α) (d : Fin 768) (f : Fin 1536) :
    shapeCast S768x1536 v shapeCasts_S1x768x1536_S768x1536 (ix2 d f) = v (ix3 (0 : Fin 1) d f) :=
  shapeCast_apply v shapeCasts_S1x768x1536_S768x1536 (ix2 d f) (ix3 (0 : Fin 1) d f) (by
    rw [Shape.rowMajor_val_two, Shape.rowMajor_val_three]
    show (0 * 768 + d.val) * 1536 + f.val = d.val * 1536 + f.val
    omega)

/-- The contribution of a grid point at an index, from any slots, weights and tokens. -/
theorem contribK_apply (i : grid0.Coords) (a : Fin 8) (ha : (i 0).val = a.val) (pos cf : FVec Ideal S2048x8 .f32) (xb : FVec Ideal S2048x768 .bf16)
    (x3 x4 : FVec Ideal S1x1536x768 .f32) (x5 : FVec Ideal S1x768x1536 .f32) (b : Fin 640 → Fin 768 → EReal)
    (hb : ∀ c d, (∑ t : Fin 2048, (if Ideal.fptosi 32 (pos (ix2 t a)) = BitVec.ofNat 32 c.val then (1 : EReal) else 0) * (xb (ix2 t d) : EReal)) = b c d)
    (t : Fin 2048) (d : Fin 768) :
    contribK (F := Ideal) i pos cf xb x3 x4 x5 (ix2 t d)
      = (∑ c : Fin 640, (if Ideal.fptosi 32 (pos (ix2 t a)) = BitVec.ofNat 32 c.val then (1 : EReal) else 0)
          * ffn b (fun f d => x3 (ix3 (0 : Fin 1) f d)) (fun f d => x4 (ix3 (0 : Fin 1) f d)) (fun d f => x5 (ix3 (0 : Fin 1) d f)) c d)
        * (cf (ix2 t a) : EReal) := by
  have h21 : ∀ c d, (k0_pay21 (F := Ideal) i pos xb (ix2 c d) : EReal) = b c d := by
    intro c d
    refine (dispatchDot_apply _ _ c d).trans (Eq.trans (Finset.sum_congr rfl fun t _ => ?_) (hb c d))
    rw [pay20_apply i a ha]
  refine congrArg₂ (fun p q : EReal => p * q) ?_ ((featBcast_apply _ t d).trans (pay19_apply i a ha cf t))
  refine (combineDot_apply _ _ t d).trans (Finset.sum_congr rfl fun c _ => ?_)
  refine congrArg₂ (fun p q : EReal => p * q) (pay20_apply i a ha pos t c) ?_
  refine (downDot_apply _ _ c d).trans (Finset.sum_congr rfl fun f _ => ?_)
  have hproj : ∀ w : FVec Ideal S1x1536x768 .f32, matmul dot_S640x768_S1536x768_S640x1536_1_1_0_0_n_n none (k0_pay21 (F := Ideal) i pos xb)
      (shapeCast S1536x768 w shapeCasts_S1x1536x768_S1536x768) (constant S640x1536 .f32 0x00000000#32) (ix2 c f)
      = proj b (fun f d => w (ix3 (0 : Fin 1) f d)) c f := by
    intro w
    refine (upDot_apply _ _ c f).trans (Finset.sum_congr rfl fun d _ => ?_)
    exact congrArg₂ (fun p q : EReal => p * q) (h21 c d) (slabCast3 w f d)
  refine congrArg₂ (fun p q : EReal => p * q) ?_ (slabCast5 x5 d f)
  exact congrArg₂ (fun u g : EReal => u * Ideal.logistic u * g) (hproj x4) (hproj x3)

end Cert.KernelIdeal.Hand
-- ==== Proof.Dispatch.lean ====
/-
  The kernel's slots, weights and buffers in numbers, and what one expert adds to each token.
-/
module

public import proofs.«01_k».proof.Proof.Expert

@[expose] public section

set_option maxRecDepth 16384

noncomputable section

namespace Cert.KernelIdeal.Hand

open Cert.KernelIdeal Cert.KernelIdeal.Gen
open Cert.ReferenceIdeal.Read
open Idealize.ShloMosaic Idealize.ShloMosaic.ValueIdx

/-- A natural number converts to its word. -/
theorem fptosi_nat (n : Nat) (h : n < 2147483648) : Ideal.fptosi 32 ((n : Nat) : EReal) = BitVec.ofNat 32 n := by
  have hc : ((n : Nat) : EReal) = (((n : Nat) : ℝ) : EReal) := by norm_cast
  rw [hc]
  show BitVec.ofInt 32 (max _ (min _ (if 0 ≤ ((n : Nat) : ℝ) then ⌊((n : Nat) : ℝ)⌋ else _))) = _
  rw [if_pos (Nat.cast_nonneg n), Int.floor_natCast]
  have h2 : max (-((2 ^ (32 - 1) : Nat) : Int)) (min (((2 ^ (32 - 1) : Nat) : Int) - 1) (n : Int)) = (n : Int) := by
    norm_num
    omega
  rw [h2]
  rfl

/-- Minus one converts to the word of all ones. -/
theorem fptosi_neg_one : Ideal.fptosi 32 (-1 : EReal) = 4294967295#32 := by
  have hc : (-1 : EReal) = ((-1 : ℝ) : EReal) := by rw [EReal.coe_neg, EReal.coe_one]
  rw [hc]
  show BitVec.ofInt 32 (max _ (min _ (if 0 ≤ (-1 : ℝ) then _ else ⌈(-1 : ℝ)⌉))) = _
  rw [if_neg (by norm_num)]
  have h1 : ⌈(-1 : ℝ)⌉ = -1 := by
    rw [Int.ceil_eq_iff]; norm_num
  rw [h1]
  decide

theorem ofBits_neg_one : Ideal.ofBits .f32 0xBF800000#32 = (-1 : EReal) := by
  have : Ideal.ofBits .f32 0xBF800000#32 = ((-1 : ℝ) : EReal) := by
    simp [Ideal.ofBits, Ideal.ieee]
    try rw [← EReal.coe_mul]
    try norm_num
  rw [this, EReal.coe_neg, EReal.coe_one]

/-- The slot numbers are stored as computed. -/
theorem pay12_apply (v : FVec Ideal S2048x8 .f32) (i : S2048x8.Idx) : k0_pay12 (F := Ideal) v i = v i := by
  unfold k0_pay12
  exact congrFun (shapeCast_same _ _) i

/-- The slot number: the count less one where the keep bit is positive, minus one elsewhere. -/
theorem pay11_apply (v : FVec Ideal S2048x8 .f32) (w : IVec S2048x8 32) (u : FVec Ideal S2048x8 .f32) (i : S2048x8.Idx) :
    k0_pay11 (F := Ideal) v w u i = Scalar.select (Ideal.cmp .ogt (k0_pay10 (F := Ideal) v w u i) (Ideal.ofBits .f32 0x00000000#32))
      ((k0_pay9 (F := Ideal) w u i : EReal) - Ideal.ofBits .f32 0x3F800000#32) (Ideal.ofBits .f32 0xBF800000#32) := rfl

/-- The combine weight: probability times keep bit. -/
theorem pay13_apply (v w : FVec Ideal S2048x8 .f32) (i : S2048x8.Idx) : k0_pay13 (F := Ideal) v w i = (v i : EReal) * w i := by
  unfold k0_pay13
  exact congrFun (shapeCast_same _ _) i

/-- The tokens are stored as read. -/
theorem pay16_apply (v : FVec Ideal S2048x768 .f32) (i : S2048x768.Idx) : (k0_pay16 (F := Ideal) v i : EReal) = v i := by
  unfold k0_pay16
  exact (congrFun (shapeCast_same _ _) i).trans (congrFun (shapeCast_same _ _) i)

section
variable (x0 : FVec Ideal Cert.ReferenceIdeal.S1x2048x768 .f32) (x1 : FVec Ideal S8x768 .f32) (x2 : FVec Ideal Cert.ReferenceIdeal.S1 .f32)

/-- The slot of an assignment: its count less one, within the capacity. -/
def slot (t : Fin 2048) (e : Fin 8) : Fin 640 := ⟨min 639 (cnt x0 x1 x2 t e - 1), by omega⟩

theorem slot_val (t : Fin 2048) (e : Fin 8) (h : Kept x0 x1 x2 t e) : (slot x0 x1 x2 t e).val = cnt x0 x1 x2 t e - 1 := by
  have h1 := h.2
  show min 639 (cnt x0 x1 x2 t e - 1) = _
  omega

/-- Two kept tokens of one expert have different slots. -/
theorem slot_inj (s t : Fin 2048) (e : Fin 8) (hs : Kept x0 x1 x2 s e) (ht : Kept x0 x1 x2 t e)
    (h : slot x0 x1 x2 s e = slot x0 x1 x2 t e) : s = t := by
  have h1 := congrArg Fin.val h
  rw [slot_val x0 x1 x2 s e hs, slot_val x0 x1 x2 t e ht] at h1
  have h2 := cnt_pos x0 x1 x2 s e hs.1
  have h3 := cnt_pos x0 x1 x2 t e ht.1
  exact cnt_inj x0 x1 x2 s t e hs.1 ht.1 (by omega)

/-- An expert's buffer: slot `c` holds the token kept there. -/
def buf (e : Fin 8) (c : Fin 640) (d : Fin 768) : EReal :=
  ∑ t : Fin 2048, if Kept x0 x1 x2 t e ∧ slot x0 x1 x2 t e = c then (x0 (ix3 (0 : Fin 1) t d) : EReal) else 0

/-- What an expert adds to a token. -/
def gain (e : Fin 8) (wg wu : Fin 1536 → Fin 768 → EReal) (wd : Fin 768 → Fin 1536 → EReal) (t : Fin 2048) (d : Fin 768) : EReal :=
  if Kept x0 x1 x2 t e then ffn (buf x0 x1 x2 e) wg wu wd (slot x0 x1 x2 t e) d * rowR x0 x1 x2 t e else 0

end

variable (x0 : FVec Ideal Cert.ReferenceIdeal.S1x2048x768 .f32) (x1 : FVec Ideal S8x768 .f32) (x2 : FVec Ideal Cert.ReferenceIdeal.S1 .f32)
  (y2 : FVec Ideal S1x1 .f32) (h2 : y2 (ix2 (0 : Fin 1) (0 : Fin 1)) = x2 (ix1 (0 : Fin 1)))
  (h0 : ∀ i, ∃ r : ℝ, x0 i = (r : EReal)) (h1 : ∀ i, ∃ r : ℝ, x1 i = (r : EReal))

theorem pos_at (k u : EReal) : (Scalar.select (Ideal.cmp .ogt k 0) u (-1 : EReal)) = if 0 < k then u else -1 := by
  by_cases h : 0 < k
  · rw [if_pos h, show Ideal.cmp .ogt k 0 = 1#1 from by show BitVec.ofBool (decide (0 < k)) = 1#1; rw [decide_eq_true h]; rfl]
    exact select_one _ _
  · rw [if_neg h, show Ideal.cmp .ogt k 0 = 0#1 from by show BitVec.ofBool (decide (0 < k)) = 0#1; rw [decide_eq_false h]; rfl]
    exact select_zero _ _

include h0 h1 h2 in
/-- The kernel's slot number of an assignment: the slot of a kept one, minus one of any other. -/
theorem posK_apply (t : Fin 2048) (e : Fin 8) :
    posK (F := Ideal) (val_main_v0 (F := Ideal) x0) x1 y2 (ix2 t e)
      = if Kept x0 x1 x2 t e then (((cnt x0 x1 x2 t e - 1 : Nat)) : EReal) else -1 := by
  have hu : posK (F := Ideal) (val_main_v0 (F := Ideal) x0) x1 y2 (ix2 t e)
      = Scalar.select (Ideal.cmp .ogt (keepK (F := Ideal) (val_main_v0 (F := Ideal) x0) x1 y2 (ix2 t e)) (Ideal.ofBits .f32 0x00000000#32))
          ((cumK (val_main_v0 (F := Ideal) x0) x1 y2 (ix2 t e) : EReal) - Ideal.ofBits .f32 0x3F800000#32) (Ideal.ofBits .f32 0xBF800000#32) := by
    exact (pay12_apply _ _).trans (pay11_apply _ _ _ _)
  rw [hu, Ideal.ofBits_zero_f32, Ideal.ofBits_one_f32, ofBits_neg_one, kKeep x0 x1 x2 y2 h2 h0 h1, kCount x0 x1 x2 y2 h2 h0 h1, pos_at]
  by_cases h : Kept x0 x1 x2 t e
  · rw [if_pos h, if_pos h, if_pos (by norm_num)]
    have hp := cnt_pos x0 x1 x2 t e h.1
    generalize cnt x0 x1 x2 t e = n at hp
    obtain ⟨m, rfl⟩ : ∃ m, n = m + 1 := ⟨n - 1, by omega⟩
    have e1 : ((m + 1 : Nat) : EReal) = (((m : ℝ) + 1 : ℝ) : EReal) := by norm_cast
    have e2 : ((m + 1 - 1 : Nat) : EReal) = ((m : ℝ) : EReal) := by norm_cast
    have e3 : (1 : EReal) = ((1 : ℝ) : EReal) := by norm_cast
    rw [e1, e2, e3, ← EReal.coe_sub]
    congr 1
    ring
  · rw [if_neg h, if_neg h, if_neg (lt_irrefl _)]

include h0 h1 h2 in
/-- The dispatch condition in numbers. -/
theorem pos_iff (t : Fin 2048) (e : Fin 8) (c : Fin 640) :
    Ideal.fptosi 32 (posK (F := Ideal) (val_main_v0 (F := Ideal) x0) x1 y2 (ix2 t e)) = BitVec.ofNat 32 c.val
      ↔ Kept x0 x1 x2 t e ∧ slot x0 x1 x2 t e = c := by
  have hcl := c.isLt
  rw [posK_apply x0 x1 x2 y2 h2 h0 h1]
  by_cases h : Kept x0 x1 x2 t e
  · have hs := slot_val x0 x1 x2 t e h
    have hs2 := (slot x0 x1 x2 t e).isLt
    rw [if_pos h, fptosi_nat _ (by omega), ← hs]
    constructor
    · intro hh
      have := congrArg BitVec.toNat hh
      rw [BitVec.toNat_ofNat, BitVec.toNat_ofNat, Nat.mod_eq_of_lt (by omega), Nat.mod_eq_of_lt (by omega)] at this
      exact ⟨h, Fin.ext this⟩
    · rintro ⟨-, hh⟩
      rw [hh]
  · rw [if_neg h, fptosi_neg_one]
    constructor
    · intro hh
      have := congrArg BitVec.toNat hh
      rw [BitVec.toNat_ofNat, BitVec.toNat_ofNat, Nat.mod_eq_of_lt (a := c.val) (by omega)] at this
      omega
    · exact fun hh => absurd hh.1 h

include h0 h1 h2 in
/-- What a grid point contributes to the output. -/
theorem contrib_gain (i : grid0.Coords) (a : Fin 8) (ha : (i 0).val = a.val) (x3 x4 : FVec Ideal S1x1536x768 .f32) (x5 : FVec Ideal S1x768x1536 .f32)
    (t : Fin 2048) (d : Fin 768) :
    contribK (F := Ideal) i (posK (F := Ideal) (val_main_v0 (F := Ideal) x0) x1 y2) (cfK (F := Ideal) (val_main_v0 (F := Ideal) x0) x1 y2)
        (xbK (F := Ideal) (val_main_v0 (F := Ideal) x0)) x3 x4 x5 (ix2 t d)
      = gain x0 x1 x2 a (fun f d => x3 (ix3 (0 : Fin 1) f d)) (fun f d => x4 (ix3 (0 : Fin 1) f d)) (fun d f => x5 (ix3 (0 : Fin 1) d f)) t d := by
  have hxb : ∀ t d, (xbK (F := Ideal) (val_main_v0 (F := Ideal) x0) (ix2 t d) : EReal) = x0 (ix3 (0 : Fin 1) t d) := by
    intro t d
    refine Eq.trans ?_ (v0_apply x0 (ix2 t d))
    exact pay16_apply _ _
  have hcf : ∀ t, (cfK (F := Ideal) (val_main_v0 (F := Ideal) x0) x1 y2 (ix2 t a) : EReal)
      = rowR x0 x1 x2 t a * if Kept x0 x1 x2 t a then (1 : EReal) else 0 := by
    intro t
    refine (pay13_apply _ _ _).trans ?_
    exact congrArg₂ (fun p q : EReal => p * q) (congrFun (rowP_eq x0 x1 x2 y2 h2 t) a) (kKeep x0 x1 x2 y2 h2 h0 h1 t a)
  have hb : ∀ c d, (∑ t : Fin 2048, (if Ideal.fptosi 32 (posK (F := Ideal) (val_main_v0 (F := Ideal) x0) x1 y2 (ix2 t a)) = BitVec.ofNat 32 c.val
      then (1 : EReal) else 0) * (xbK (F := Ideal) (val_main_v0 (F := Ideal) x0) (ix2 t d) : EReal)) = buf x0 x1 x2 a c d := by
    intro c d
    refine Finset.sum_congr rfl fun t _ => ?_
    rw [hxb]
    by_cases h : Kept x0 x1 x2 t a ∧ slot x0 x1 x2 t a = c
    · rw [if_pos h, if_pos ((pos_iff x0 x1 x2 y2 h2 h0 h1 t a c).mpr h), one_mul]
    · rw [if_neg h, if_neg fun hh => h ((pos_iff x0 x1 x2 y2 h2 h0 h1 t a c).mp hh), zero_mul]
  refine (contribK_apply i a ha _ _ _ x3 x4 x5 (buf x0 x1 x2 a) hb t d).trans ?_
  rw [hcf]
  unfold gain
  by_cases h : Kept x0 x1 x2 t a
  · rw [if_pos h, if_pos h, mul_one]
    congr 1
    rw [Finset.sum_eq_single (slot x0 x1 x2 t a)]
    · rw [if_pos ((pos_iff x0 x1 x2 y2 h2 h0 h1 t a _).mpr ⟨h, rfl⟩), one_mul]
    · intro c _ hc
      rw [if_neg fun hh => hc ((pos_iff x0 x1 x2 y2 h2 h0 h1 t a c).mp hh).2.symm, zero_mul]
    · intro hh
      exact absurd (Finset.mem_univ _) hh
  · rw [if_neg h, if_neg h, mul_zero, mul_zero]

end Cert.KernelIdeal.Hand
-- ==== Proof.RefSlots.lean ====
/-
  The reference's slots: each choice's keep bit and slot, gathered, and the words that address an
  expert's buffer.
-/
module

public import proofs.«01_k».proof.Proof.Dispatch

@[expose] public section

set_option maxRecDepth 16384

noncomputable section

namespace Cert.KernelIdeal.Hand

open Cert.ReferenceIdeal Cert.ReferenceIdeal.Read
open Idealize.ShloMosaic Idealize.ShloMosaic.ValueIdx Idealize.ShloMosaic.Routing

/-- A small word below another, signed. -/
theorem slt_small (a b : Nat) (ha : a < 4096) (hb : b < 4096) : (BitVec.ofNat 32 a).slt (BitVec.ofNat 32 b) = decide (a < b) := by
  rw [BitVec.slt_eq_decide, toInt_small a ha, toInt_small b hb]
  simp only [Nat.cast_lt]

/-- The count's word, less one, brought within the capacity. -/
theorem slot_word (n : Nat) (h : n < 4096) :
    IntOp.minsi 639#32 (IntOp.maxsi 0#32 (IntOp.subi (BitVec.ofNat 32 n) 1#32)) = BitVec.ofNat 32 (min 639 (n - 1)) := by
  rcases Nat.eq_zero_or_pos n with rfl | hn
  · decide
  · obtain ⟨m, rfl⟩ : ∃ m, n = m + 1 := ⟨n - 1, by omega⟩
    have e1 : IntOp.subi (BitVec.ofNat 32 (m + 1)) 1#32 = BitVec.ofNat 32 m := by
      show BitVec.ofNat 32 (m + 1) - 1#32 = _
      apply BitVec.eq_of_toNat_eq
      rw [BitVec.toNat_sub, BitVec.toNat_ofNat, BitVec.toNat_ofNat, BitVec.toNat_ofNat]
      omega
    have e2 : IntOp.maxsi 0#32 (BitVec.ofNat 32 m) = BitVec.ofNat 32 m := by
      show (if (BitVec.ofNat 32 m).slt (BitVec.ofNat 32 0) then _ else _) = _
      rw [slt_small m 0 (by omega) (by omega)]
      simp
    rw [e1, e2]
    show (if (BitVec.ofNat 32 639).slt (BitVec.ofNat 32 m) then _ else _) = _
    rw [slt_small 639 m (by omega) (by omega)]
    by_cases hm : 639 < m
    · rw [if_pos (by simpa using hm), show min 639 (m + 1 - 1) = 639 from by omega]
    · rw [if_neg (by simpa using hm), show min 639 (m + 1 - 1) = m from by omega]

/-- A choice's number among all choices. -/
def flat (t : Fin 2048) (k : Fin 2) : Fin 4096 := ⟨t.val * 2 + k.val, by omega⟩

theorem flat_two (t : Fin 2048) (k : Fin 2) : idx_main_v71 (ix1 (flat t k)) = ix2 t k := by
  have hk := k.isLt
  funext a
  match a with
  | ⟨0, _⟩ => exact Fin.ext (by show (t.val * 2 + k.val) / 2 = t.val; omega)
  | ⟨1, _⟩ => exact Fin.ext (by show (t.val * 2 + k.val) % 2 = k.val; omega)

/-- Reading a token-by-expert array at a pair of words. -/
theorem gatherPair_apply {α : Type} (x : S2048x8.Idx → α) (idx : IVec S2048x2x2 32) (t : Fin 2048) (k : Fin 2) (r : Fin 2048) (e : Fin 8)
    (hr : idx (ix3 t k (0 : Fin 2)) = BitVec.ofNat 32 r.val) (he : idx (ix3 t k (1 : Fin 2)) = BitVec.ofNat 32 e.val) :
    Host.gather gather_S2048x8_S2048x2x2_S2048x2_n_01_n_n_01_2_11 x idx (ix2 t k) = x (ix2 r e) := by
  have hs0 : gather_S2048x8_S2048x2x2_S2048x2_n_01_n_n_01_2_11.siIdx (ix2 t k) ⟨0, by decide⟩ = ix3 t k (0 : Fin 2) := by
    funext b
    match b with
    | ⟨0, _⟩ => rfl
    | ⟨1, _⟩ => rfl
    | ⟨2, _⟩ => rfl
  have hs1 : gather_S2048x8_S2048x2x2_S2048x2_n_01_n_n_01_2_11.siIdx (ix2 t k) ⟨1, by decide⟩ = ix3 t k (1 : Fin 2) := by
    funext b
    match b with
    | ⟨0, _⟩ => rfl
    | ⟨1, _⟩ => rfl
    | ⟨2, _⟩ => rfl
  refine congrArg x ?_
  have hr' := r.isLt
  have he' := e.isLt
  funext a
  match a with
  | ⟨0, _⟩ =>
    refine Fin.ext ?_
    show min (idx (gather_S2048x8_S2048x2x2_S2048x2_n_01_n_n_01_2_11.siIdx (ix2 t k) ⟨0, by decide⟩)).toInt.toNat 2047 + 0 + 0 = r.val
    rw [hs0, hr, toInt_small _ (by omega)]
    simp
    omega
  | ⟨1, _⟩ =>
    refine Fin.ext ?_
    show min (idx (gather_S2048x8_S2048x2x2_S2048x2_n_01_n_n_01_2_11.siIdx (ix2 t k) ⟨1, by decide⟩)).toInt.toNat 7 + 0 + 0 = e.val
    rw [hs1, he, toInt_small _ (by omega)]
    simp
    omega

/-- Reading a row of the experts' outputs at a pair of words. -/
theorem gatherRow_apply {α : Type} (x : S8x640x768.Idx → α) (idx : IVec S4096x2 32) (n : Fin 4096) (d : Fin 768) (e : Fin 8) (c : Fin 640)
    (he : idx (ix2 n (0 : Fin 2)) = BitVec.ofNat 32 e.val) (hc : idx (ix2 n (1 : Fin 2)) = BitVec.ofNat 32 c.val) :
    Host.gather gather_S8x640x768_S4096x2_S4096x768_1_01_n_n_01_1_11768 x idx (ix2 n d) = x (ix3 e c d) := by
  have hs0 : gather_S8x640x768_S4096x2_S4096x768_1_01_n_n_01_1_11768.siIdx (ix2 n d) ⟨0, by decide⟩ = ix2 n (0 : Fin 2) := by
    funext b
    match b with
    | ⟨0, _⟩ => rfl
    | ⟨1, _⟩ => rfl
  have hs1 : gather_S8x640x768_S4096x2_S4096x768_1_01_n_n_01_1_11768.siIdx (ix2 n d) ⟨1, by decide⟩ = ix2 n (1 : Fin 2) := by
    funext b
    match b with
    | ⟨0, _⟩ => rfl
    | ⟨1, _⟩ => rfl
  refine congrArg x ?_
  have hc' := c.isLt
  have he' := e.isLt
  funext a
  match a with
  | ⟨0, _⟩ =>
    refine Fin.ext ?_
    show min (idx (gather_S8x640x768_S4096x2_S4096x768_1_01_n_n_01_1_11768.siIdx (ix2 n d) ⟨0, by decide⟩)).toInt.toNat 7 + 0 + 0 = e.val
    rw [hs0, he, toInt_small _ (by omega)]
    simp
    omega
  | ⟨1, _⟩ =>
    refine Fin.ext ?_
    show min (idx (gather_S8x640x768_S4096x2_S4096x768_1_01_n_n_01_1_11768.siIdx (ix2 n d) ⟨1, by decide⟩)).toInt.toNat 639 + 0 + 0 = c.val
    rw [hs1, hc, toInt_small _ (by omega)]
    simp
    omega
  | ⟨2, _⟩ =>
    refine Fin.ext ?_
    show 0 + 0 + d.val = d.val
    omega

/-- Where an update lands: at the expert and slot its words name. -/
theorem scatterRow_lands (idx : IVec S4096x2 32) (n : Fin 4096) (d : Fin 768) (e : Fin 8) (c : Fin 640)
    (he : idx (ix2 n (0 : Fin 2)) = BitVec.ofNat 32 e.val) (hc : idx (ix2 n (1 : Fin 2)) = BitVec.ofNat 32 c.val)
    (e' : Fin 8) (c' : Fin 640) (d' : Fin 768) :
    scatter_S8x640x768_S4096x2_S4096x768_1_01_01_1.resultIdx? (ix2 n d) idx = some (ix3 e' c' d') ↔ e = e' ∧ c = c' ∧ d = d' := by
  have hs0 : scatter_S8x640x768_S4096x2_S4096x768_1_01_01_1.siIdx (ix2 n d) ⟨0, by decide⟩ = ix2 n (0 : Fin 2) := by
    funext b
    match b with
    | ⟨0, _⟩ => rfl
    | ⟨1, _⟩ => rfl
  have hs1 : scatter_S8x640x768_S4096x2_S4096x768_1_01_01_1.siIdx (ix2 n d) ⟨1, by decide⟩ = ix2 n (1 : Fin 2) := by
    funext b
    match b with
    | ⟨0, _⟩ => rfl
    | ⟨1, _⟩ => rfl
  have hc' := c.isLt
  have he' := e.isLt
  have t0 : scatter_S8x640x768_S4096x2_S4096x768_1_01_01_1.start (ix2 n d) idx 0 = (e.val : Int) := by
    show (idx (scatter_S8x640x768_S4096x2_S4096x768_1_01_01_1.siIdx (ix2 n d) ⟨0, by decide⟩)).toInt = _
    rw [hs0, he, toInt_small _ (by omega)]
  have t1 : scatter_S8x640x768_S4096x2_S4096x768_1_01_01_1.start (ix2 n d) idx 1 = (c.val : Int) := by
    show (idx (scatter_S8x640x768_S4096x2_S4096x768_1_01_01_1.siIdx (ix2 n d) ⟨1, by decide⟩)).toInt = _
    rw [hs1, hc, toInt_small _ (by omega)]
  have t2 : scatter_S8x640x768_S4096x2_S4096x768_1_01_01_1.start (ix2 n d) idx 2 = 0 := rfl
  have w0 : scatter_S8x640x768_S4096x2_S4096x768_1_01_01_1.window (ix2 n d) 0 = 0 := rfl
  have w1 : scatter_S8x640x768_S4096x2_S4096x768_1_01_01_1.window (ix2 n d) 1 = 0 := rfl
  have w2 : scatter_S8x640x768_S4096x2_S4096x768_1_01_01_1.window (ix2 n d) 2 = d.val := rfl
  rw [resultIdx?_eq_some]
  constructor
  · intro h
    have a0 := h 0
    have a1 := h 1
    have a2 := h 2
    rw [t0, w0] at a0
    rw [t1, w1] at a1
    rw [t2, w2] at a2
    have b0 : (e.val : Int) + ((0 : Nat) : Int) = (e'.val : Int) := a0
    have b1 : (c.val : Int) + ((0 : Nat) : Int) = (c'.val : Int) := a1
    have b2 : (0 : Int) + (d.val : Int) = (d'.val : Int) := a2
    exact ⟨Fin.ext (by omega), Fin.ext (by omega), Fin.ext (by omega)⟩
  · rintro ⟨rfl, rfl, rfl⟩ a
    match a with
    | ⟨0, _⟩ =>
      refine (congrArg₂ (fun (p : Int) (q : Nat) => p + (q : Int)) t0 w0).trans ?_
      show (e.val : Int) + ((0 : Nat) : Int) = (e.val : Int)
      omega
    | ⟨1, _⟩ =>
      refine (congrArg₂ (fun (p : Int) (q : Nat) => p + (q : Int)) t1 w1).trans ?_
      show (c.val : Int) + ((0 : Nat) : Int) = (c.val : Int)
      omega
    | ⟨2, _⟩ =>
      refine (congrArg₂ (fun (p : Int) (q : Nat) => p + (q : Int)) t2 w2).trans ?_
      show (0 : Int) + (d.val : Int) = (d.val : Int)
      omega

variable (x0 : FVec Ideal S1x2048x768 .f32) (x1 : FVec Ideal S8x768 .f32) (x2 : FVec Ideal S1 .f32)

/-- The reference's slot of every token and expert. -/
theorem refSlot (t : Fin 2048) (e : Fin 8) : val_main_v63 (F := Ideal) x0 x1 x2 (ix2 t e) = BitVec.ofNat 32 (slot x0 x1 x2 t e).val := by
  have hn := cnt_le x0 x1 x2 t e
  have h60 : val_main_v60 (F := Ideal) x0 x1 x2 (ix2 t e) = BitVec.ofNat 32 (cnt x0 x1 x2 t e) := by
    rw [val_main_v60_apply, refCount]
    exact fptosi_nat _ (by omega)
  rw [val_main_v63_apply, val_main_call3_v2_apply, val_main_v62_apply, h60, val_main_call3_v4_apply, val_main_call3_v1_apply, val_main_v61_apply]
  exact slot_word _ (by omega)

/-- The keep bit of a choice. -/
theorem keepAt (t : Fin 2048) (k : Fin 2) :
    val_main_v86 (F := Ideal) x0 x1 x2 (ix2 t k) = if Kept x0 x1 x2 t (pick x0 x1 x2 t k) then (1 : EReal) else 0 := by
  refine (gatherPair_apply (val_main_v59 (F := Ideal) x0 x1 x2) (val_main_v34 (F := Ideal) x0 x1 x2) t k t (pick x0 x1 x2 t k) (pair_row x0 x1 x2 t k)
    (pair_expert x0 x1 x2 t k)).trans ?_
  exact refKeep x0 x1 x2 t _

/-- The slot of a choice. -/
theorem slotAt (t : Fin 2048) (k : Fin 2) :
    val_main_v101 (F := Ideal) x0 x1 x2 (ix2 t k) = BitVec.ofNat 32 (slot x0 x1 x2 t (pick x0 x1 x2 t k)).val := by
  refine (gatherPair_apply (val_main_v63 (F := Ideal) x0 x1 x2) (val_main_v34 (F := Ideal) x0 x1 x2) t k t (pick x0 x1 x2 t k) (pair_row x0 x1 x2 t k)
    (pair_expert x0 x1 x2 t k)).trans ?_
  exact refSlot x0 x1 x2 t _

theorem wrap_small (n : Nat) (h : n < 4096) (a : BitVec 32) : Scalar.select (IntOp.cmpi .slt (BitVec.ofNat 32 n) 0#32) a (BitVec.ofNat 32 n) = BitVec.ofNat 32 n := by
  refine wrap_of_lt _ _ ?_
  rw [BitVec.toNat_ofNat]
  omega

/-- The expert word of a choice. -/
theorem expertWord (t : Fin 2048) (k : Fin 2) :
    val_main_v114 (F := Ideal) x0 x1 x2 (ix1 (flat t k)) = BitVec.ofNat 32 (pick x0 x1 x2 t k).val := by
  have h71 : val_main_v71 (F := Ideal) x0 x1 x2 (ix1 (flat t k)) = BitVec.ofNat 32 (pick x0 x1 x2 t k).val := by
    rw [val_main_v71_apply, flat_two, indices_apply]
  have h110 : val_main_v110 (F := Ideal) (ix1 (flat t k)) = 0#32 := by
    rw [val_main_v110_apply]
    rfl
  rw [val_main_v114_apply, val_main_v111_apply, h71, h110]
  have hp := (pick x0 x1 x2 t k).isLt
  exact wrap_small _ (by omega) _

/-- The slot word of a choice. -/
theorem slotWord (t : Fin 2048) (k : Fin 2) :
    val_main_v119 (F := Ideal) x0 x1 x2 (ix1 (flat t k)) = BitVec.ofNat 32 (slot x0 x1 x2 t (pick x0 x1 x2 t k)).val := by
  have h102 : val_main_v102 (F := Ideal) x0 x1 x2 (ix1 (flat t k)) = BitVec.ofNat 32 (slot x0 x1 x2 t (pick x0 x1 x2 t k)).val := by
    rw [val_main_v102_apply]
    refine Eq.trans ?_ (slotAt x0 x1 x2 t k)
    exact congrArg _ (flat_two t k)
  have h115 : val_main_v115 (F := Ideal) (ix1 (flat t k)) = 0#32 := by
    rw [val_main_v115_apply]
    rfl
  rw [val_main_v119_apply, val_main_v116_apply, h102, h115]
  have hp := (slot x0 x1 x2 t (pick x0 x1 x2 t k)).isLt
  exact wrap_small _ (by omega) _

/-- The first word of a choice's address is its expert. -/
theorem addr_expert (t : Fin 2048) (k : Fin 2) :
    val_main_v122 (F := Ideal) x0 x1 x2 (ix2 (flat t k) (0 : Fin 2)) = BitVec.ofNat 32 (pick x0 x1 x2 t k).val := by
  refine (concatenate_pair_apply_left (t := S4096x2) (s₁ := S4096x1) (s₂ := S4096x1) 1 _ _ _ (ix2 (flat t k) (0 : Fin 2)) rfl (ix2 (flat t k) (0 : Fin 1))
    (fun b => ?_)).trans ?_
  · match b with
    | ⟨0, _⟩ => rfl
    | ⟨1, _⟩ => rfl
  · rw [val_main_v120_apply]
    refine Eq.trans (congrArg _ ?_) (expertWord x0 x1 x2 t k)
    funext a
    match a with
    | ⟨0, _⟩ => rfl

/-- The second word is its slot. -/
theorem addr_slot (t : Fin 2048) (k : Fin 2) :
    val_main_v122 (F := Ideal) x0 x1 x2 (ix2 (flat t k) (1 : Fin 2)) = BitVec.ofNat 32 (slot x0 x1 x2 t (pick x0 x1 x2 t k)).val := by
  refine (concatenate_pair_apply_right (t := S4096x2) (s₁ := S4096x1) (s₂ := S4096x1) 1 _ _ _ (ix2 (flat t k) (1 : Fin 2)) rfl rfl (ix2 (flat t k) (0 : Fin 1))
    (fun b hb => ?_) rfl).trans ?_
  · match b with
    | ⟨0, _⟩ => rfl
    | ⟨1, _⟩ => exact absurd rfl hb
  · rw [val_main_v121_apply]
    refine Eq.trans (congrArg _ ?_) (slotWord x0 x1 x2 t k)
    funext a
    match a with
    | ⟨0, _⟩ => rfl

/-- The addresses read back are the addresses written. -/
theorem addr_again : val_main_v141 (F := Ideal) x0 x1 x2 = val_main_v122 (F := Ideal) x0 x1 x2 := rfl

end Cert.KernelIdeal.Hand
-- ==== Proof.RefOut.lean ====
/-
  The reference's output: the experts' buffers, their feed-forward products, and the combination of
  each token's two experts, which is the sum of what the experts add.
-/
module

public import proofs.«01_k».proof.Proof.RefSlots

@[expose] public section

set_option maxRecDepth 16384

noncomputable section

namespace Cert.KernelIdeal.Hand

open Cert.ReferenceIdeal Cert.ReferenceIdeal.Read
open Idealize.ShloMosaic Idealize.ShloMosaic.ValueIdx Idealize.ShloMosaic.Routing

/-- A sum over all choices is a sum over tokens and their two choices. -/
theorem sum_flat (f : Fin 4096 → EReal) : ∑ n, f n = ∑ t : Fin 2048, ∑ k : Fin 2, f (flat t k) := by
  have h := Equiv.sum_comp (finProdFinEquiv (m := 2048) (n := 2)) f
  refine h.symm.trans ?_
  rw [Fintype.sum_prod_type]
  refine Finset.sum_congr rfl fun t _ => Finset.sum_congr rfl fun k _ => congrArg f (Fin.ext ?_)
  show k.val + 2 * t.val = t.val * 2 + k.val
  omega

variable (x0 : FVec Ideal S1x2048x768 .f32) (x1 : FVec Ideal S8x768 .f32) (x2 : FVec Ideal S1 .f32)

/-- A choice's update: the token where the choice is kept, zero where it is not. -/
theorem update_apply (t : Fin 2048) (k : Fin 2) (d : Fin 768) :
    val_main_v108 (F := Ideal) x0 x1 x2 (ix2 (flat t k) d)
      = (x0 (ix3 (0 : Fin 1) t d) : EReal) * if Kept x0 x1 x2 t (pick x0 x1 x2 t k) then (1 : EReal) else 0 := by
  have hk := k.isLt
  have hd := d.isLt
  have hi : idx_main_v108 (ix2 (flat t k) d) = ix3 t k d := by
    funext a
    match a with
    | ⟨0, _⟩ => exact Fin.ext (by show ((t.val * 2 + k.val) * 768 + d.val) / 1536 = t.val; omega)
    | ⟨1, _⟩ => exact Fin.ext (by show ((t.val * 2 + k.val) * 768 + d.val) / 768 % 2 = k.val; omega)
    | ⟨2, _⟩ => exact Fin.ext (by show ((t.val * 2 + k.val) * 768 + d.val) % 768 = d.val; omega)
  rw [val_main_v108_apply, hi, val_main_v107_apply]
  refine congrArg₂ (fun p q : EReal => p * q) ?_ ?_
  · rw [val_main_v105_apply, val_main_v103_apply]
    refine Eq.trans (congrArg _ ?_) (v0_apply x0 (ix2 t d))
    funext a
    match a with
    | ⟨0, _⟩ => rfl
    | ⟨1, _⟩ => rfl
  · rw [val_main_v106_apply, val_main_v104_apply]
    refine Eq.trans (congrArg _ ?_) (keepAt x0 x1 x2 t k)
    funext a
    match a with
    | ⟨0, _⟩ => rfl
    | ⟨1, _⟩ => rfl

/-- Two choices of which at most one is the one looked for. -/
theorem two_choices (p : Fin 2 → Fin 8) (hp : p 0 ≠ p 1) (e : Fin 8) (K S : Fin 8 → Prop) [DecidablePred K] [DecidablePred S]
    (hK : K e → e = p 0 ∨ e = p 1) (x : EReal) :
    (∑ k : Fin 2, if p k = e ∧ S (p k) then x * (if K (p k) then (1 : EReal) else 0) else 0) = if K e ∧ S e then x else 0 := by
  rw [Fin.sum_univ_two]
  by_cases h0 : p 0 = e
  · have h1 : p 1 ≠ e := fun h => hp (h0.trans h.symm)
    rw [h0, if_neg (fun h : p 1 = e ∧ _ => h1 h.1), add_zero]
    by_cases hs : S e
    · by_cases hk : K e
      · rw [if_pos ⟨rfl, hs⟩, if_pos hk, if_pos ⟨hk, hs⟩, mul_one]
      · rw [if_pos ⟨rfl, hs⟩, if_neg hk, if_neg (fun h => hk h.1), mul_zero]
    · rw [if_neg (fun h => hs h.2), if_neg (fun h => hs h.2)]
  · rw [if_neg (fun h : p 0 = e ∧ _ => h0 h.1), zero_add]
    by_cases h1 : p 1 = e
    · rw [h1]
      by_cases hs : S e
      · by_cases hk : K e
        · rw [if_pos ⟨rfl, hs⟩, if_pos hk, if_pos ⟨hk, hs⟩, mul_one]
        · rw [if_pos ⟨rfl, hs⟩, if_neg hk, if_neg (fun h => hk h.1), mul_zero]
      · rw [if_neg (fun h => hs h.2), if_neg (fun h => hs h.2)]
    · rw [if_neg (fun h : p 1 = e ∧ _ => h1 h.1), if_neg]
      rintro ⟨hk, -⟩
      rcases hK hk with h | h
      · exact h0 h.symm
      · exact h1 h.symm

/-- The reference's buffers are the kernel's. -/
theorem refBuf (e : Fin 8) (c : Fin 640) (d : Fin 768) : val_main_v123 (F := Ideal) x0 x1 x2 (ix3 e c d) = buf x0 x1 x2 e c d := by
  have hs : val_main_v123 (F := Ideal) x0 x1 x2 (ix3 e c d)
      = (val_main_v109 (F := Ideal) (ix3 e c d) : EReal) + ∑ j ∈ Finset.univ.filter (fun j =>
          scatter_S8x640x768_S4096x2_S4096x768_1_01_01_1.resultIdx? j (val_main_v122 (F := Ideal) x0 x1 x2) = some (ix3 e c d)),
          val_main_v108 (F := Ideal) x0 x1 x2 j := rfl
  have hz : (val_main_v109 (F := Ideal) (ix3 e c d) : EReal) = 0 := by
    rw [val_main_v109_apply]
    exact Ideal.ofBits_zero_f32
  rw [hs, hz, zero_add, Finset.sum_filter, sum_idx2, sum_flat]
  unfold buf
  refine Finset.sum_congr rfl fun t _ => ?_
  refine Eq.trans ?_ (two_choices (pick x0 x1 x2 t) (pick_top2 x0 x1 x2 t).ne e (fun e => Kept x0 x1 x2 t e) (fun e => slot x0 x1 x2 t e = c)
    (fun h => h.1) (x0 (ix3 (0 : Fin 1) t d) : EReal))
  refine Finset.sum_congr rfl fun k _ => ?_
  have hl : ∀ d', (scatter_S8x640x768_S4096x2_S4096x768_1_01_01_1.resultIdx? (ix2 (flat t k) d') (val_main_v122 (F := Ideal) x0 x1 x2) = some (ix3 e c d))
      ↔ (pick x0 x1 x2 t k = e ∧ slot x0 x1 x2 t (pick x0 x1 x2 t k) = c ∧ d' = d) := fun d' =>
    scatterRow_lands _ (flat t k) d' _ _ (addr_expert x0 x1 x2 t k) (addr_slot x0 x1 x2 t k) e c d
  rw [Finset.sum_eq_single d]
  · by_cases h : pick x0 x1 x2 t k = e ∧ slot x0 x1 x2 t (pick x0 x1 x2 t k) = c
    · rw [if_pos ((hl d).mpr ⟨h.1, h.2, rfl⟩), if_pos h, update_apply]
    · rw [if_neg (fun hh => h ⟨((hl d).mp hh).1, ((hl d).mp hh).2.1⟩), if_neg h]
  · intro d' _ hd
    rw [if_neg (fun hh => hd ((hl d').mp hh).2.2)]
  · intro hh
    exact absurd (Finset.mem_univ _) hh

variable (x3 x4 : FVec Ideal S8x1536x768 .f32) (x5 : FVec Ideal S8x768x1536 .f32)

/-- The reference's two projections of a buffer. -/
theorem refGate (e : Fin 8) (c : Fin 640) (f : Fin 1536) :
    val_main_v124 (F := Ideal) x0 x1 x2 x3 (ix3 e c f) = proj (buf x0 x1 x2 e) (fun f d => x3 (ix3 e f d)) c f := by
  rw [val_main_v124_apply]
  unfold proj
  refine Finset.sum_congr rfl fun d _ => congrArg₂ (fun p q : EReal => p * q) ?_ (congrArg x3 ?_)
  · refine Eq.trans (congrArg _ ?_) (refBuf x0 x1 x2 e c d)
    funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

theorem refUp (e : Fin 8) (c : Fin 640) (f : Fin 1536) :
    val_main_v125 (F := Ideal) x0 x1 x2 x4 (ix3 e c f) = proj (buf x0 x1 x2 e) (fun f d => x4 (ix3 e f d)) c f := by
  rw [val_main_v125_apply]
  unfold proj
  refine Finset.sum_congr rfl fun d _ => congrArg₂ (fun p q : EReal => p * q) ?_ (congrArg x4 ?_)
  · refine Eq.trans (congrArg _ ?_) (refBuf x0 x1 x2 e c d)
    funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's logistic of the up projection. -/
theorem refLogistic (i : S8x640x1536.Idx) :
    val_main_call4_v5 (F := Ideal) x0 x1 x2 x4 i = Ideal.logistic (val_main_v125 (F := Ideal) x0 x1 x2 x4 i) := by
  rw [val_main_call4_v5_apply, val_main_call4_v3_apply, val_main_call4_v1_apply, val_main_call4_v0_apply, val_main_call4_v4_apply,
    val_main_call4_v2_apply]
  generalize val_main_v125 (F := Ideal) x0 x1 x2 x4 i = u
  show Ideal.div (Ideal.ofBits .f32 0x3F800000#32) ((Ideal.ofBits .f32 0x3F800000#32) + Ideal.exp (-u)) = _
  rw [Ideal.ofBits_one_f32]
  rfl

/-- The reference's expert outputs. -/
theorem refFfn (e : Fin 8) (c : Fin 640) (d : Fin 768) :
    val_main_v128 (F := Ideal) x0 x1 x2 x3 x4 x5 (ix3 e c d)
      = ffn (buf x0 x1 x2 e) (fun f d => x3 (ix3 e f d)) (fun f d => x4 (ix3 e f d)) (fun d f => x5 (ix3 e d f)) c d := by
  rw [val_main_v128_apply]
  unfold ffn
  refine Finset.sum_congr rfl fun f _ => congrArg₂ (fun p q : EReal => p * q) ?_ (congrArg x5 ?_)
  · have hi : lidx_main_v128 (ix3 e c d) f = ix3 e c f := by
      funext a
      match a with
      | ⟨0, _⟩ => rfl
      | ⟨1, _⟩ => rfl
      | ⟨2, _⟩ => rfl
    rw [hi, val_main_v127_apply, val_main_v126_apply, refLogistic, refUp, refGate]
    rfl
  · funext a
    match a with
    | ⟨0, _⟩ => rfl
    | ⟨1, _⟩ => rfl
    | ⟨2, _⟩ => rfl

/-- A choice's row of its expert's output. -/
theorem refRow (t : Fin 2048) (k : Fin 2) (d : Fin 768) :
    val_main_v143 (F := Ideal) x0 x1 x2 x3 x4 x5 (ix3 t k d)
      = val_main_v128 (F := Ideal) x0 x1 x2 x3 x4 x5 (ix3 (pick x0 x1 x2 t k) (slot x0 x1 x2 t (pick x0 x1 x2 t k)) d) := by
  have hk := k.isLt
  have hd := d.isLt
  have hi : idx_main_v143 (ix3 t k d) = ix2 (flat t k) d := by
    funext a
    match a with
    | ⟨0, _⟩ => exact Fin.ext (by show ((t.val * 2 + k.val) * 768 + d.val) / 768 = t.val * 2 + k.val; omega)
    | ⟨1, _⟩ => exact Fin.ext (by show ((t.val * 2 + k.val) * 768 + d.val) % 768 = d.val; omega)
  rw [val_main_v143_apply, hi]
  refine gatherRow_apply (val_main_v128 (F := Ideal) x0 x1 x2 x3 x4 x5) (val_main_v141 (F := Ideal) x0 x1 x2) (flat t k) d
    (pick x0 x1 x2 t k) (slot x0 x1 x2 t (pick x0 x1 x2 t k)) ?_ ?_
  · rw [addr_again]
    exact addr_expert x0 x1 x2 t k
  · rw [addr_again]
    exact addr_slot x0 x1 x2 t k

/-- A choice's term of the output. -/
theorem refTerm (t : Fin 2048) (k : Fin 2) (d : Fin 768) :
    val_main_v149 (F := Ideal) x0 x1 x2 x3 x4 x5 (ix3 t k d)
      = gain x0 x1 x2 (pick x0 x1 x2 t k) (fun f d => x3 (ix3 (pick x0 x1 x2 t k) f d)) (fun f d => x4 (ix3 (pick x0 x1 x2 t k) f d))
          (fun d f => x5 (ix3 (pick x0 x1 x2 t k) d f)) t d := by
  have h145 : val_main_v145 (F := Ideal) x0 x1 x2 (ix3 t k d) = rowR x0 x1 x2 t (pick x0 x1 x2 t k) := by
    rw [val_main_v145_apply, val_main_v144_apply]
    refine Eq.trans (congrArg _ ?_) (values_apply x0 x1 x2 t k)
    funext a
    match a with
    | ⟨0, _⟩ => rfl
    | ⟨1, _⟩ => rfl
  have h148 : val_main_v148 (F := Ideal) x0 x1 x2 (ix3 t k d) = if Kept x0 x1 x2 t (pick x0 x1 x2 t k) then (1 : EReal) else 0 := by
    rw [val_main_v148_apply, val_main_v147_apply]
    refine Eq.trans (congrArg _ ?_) (keepAt x0 x1 x2 t k)
    funext a
    match a with
    | ⟨0, _⟩ => rfl
    | ⟨1, _⟩ => rfl
  rw [val_main_v149_apply, val_main_v146_apply, refRow, refFfn, h145, h148]
  unfold gain
  generalize ffn _ _ _ _ _ _ = u
  generalize rowR _ _ _ _ _ = v
  show (u * v) * (if Kept x0 x1 x2 t (pick x0 x1 x2 t k) then (1 : EReal) else 0) = _
  by_cases h : Kept x0 x1 x2 t (pick x0 x1 x2 t k)
  · rw [if_pos h, if_pos h, mul_one]
  · rw [if_neg h, if_neg h, mul_zero]

/-- A sum over the experts of a function that vanishes off two of them. -/
theorem sum_two (f : Fin 8 → EReal) (p : Fin 2 → Fin 8) (hp : p 0 ≠ p 1) (h : ∀ e, e ≠ p 0 → e ≠ p 1 → f e = 0) :
    ∑ k : Fin 2, f (p k) = ∑ e, f e := by
  rw [Fin.sum_univ_two]
  exact (Finset.sum_eq_add (p 0) (p 1) hp (fun e _ he => h e he.1 he.2) (fun hh => absurd (Finset.mem_univ _) hh)
    (fun hh => absurd (Finset.mem_univ _) hh)).symm

/-- The reference's output is the sum of what the experts add. -/
theorem refOut (t : Fin 2048) (d : Fin 768) :
    val_main_v151 (F := Ideal) x0 x1 x2 x3 x4 x5 (ix3 (0 : Fin 1) t d)
      = ∑ e : Fin 8, gain x0 x1 x2 e (fun f d => x3 (ix3 e f d)) (fun f d => x4 (ix3 e f d)) (fun d f => x5 (ix3 e d f)) t d := by
  have hd := d.isLt
  have ht := t.isLt
  have hi : idx_main_v151 (ix3 (0 : Fin 1) t d) = ix2 t d := by
    funext a
    match a with
    | ⟨0, _⟩ => exact Fin.ext (by show ((0 * 2048 + t.val) * 768 + d.val) / 768 = t.val; omega)
    | ⟨1, _⟩ => exact Fin.ext (by show ((0 * 2048 + t.val) * 768 + d.val) % 768 = d.val; omega)
  have hz : ∀ s : EReal, (val_main_cst_47 (F := Ideal) (Shape.Idx.first Cert.ReferenceIdeal.Gen.h_S_) : EReal) + s = s := fun s => by
    show Ideal.ofBits .f32 0x00000000#32 + s = s
    rw [Ideal.ofBits_zero_f32, zero_add]
  rw [val_main_v151_apply, hi, val_main_v150_apply, hz]
  refine Eq.trans (Finset.sum_congr rfl fun k _ => ?_) (sum_two
    (fun e => gain x0 x1 x2 e (fun f d => x3 (ix3 e f d)) (fun f d => x4 (ix3 e f d)) (fun d f => x5 (ix3 e d f)) t d)
    (pick x0 x1 x2 t) (pick_top2 x0 x1 x2 t).ne fun e h0 h1 => ?_)
  · refine Eq.trans (congrArg _ ?_) (refTerm x0 x1 x2 x3 x4 x5 t k d)
    funext a
    match a with
    | ⟨0, _⟩ => rfl
    | ⟨1, _⟩ => rfl
    | ⟨2, _⟩ => rfl
  · show gain x0 x1 x2 e _ _ _ t d = 0
    unfold gain
    exact if_neg fun h => h.1.elim h0 h1

end Cert.KernelIdeal.Hand
-- ==== Proof.Values.lean ====
/-
  The kernel's result arrays: what its windows read from the arguments, the output after each
  point as a sum of what the experts add, and the four result arrays as the reference's values.
-/
module

public import proofs.«01_k».proof.Proof.KFrame
public import proofs.«01_k».proof.Proof.RefOut
public import proofs.«01_k».proof.Proof.Scalars
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Cert.ReferenceIdeal.Read
open Idealize.ShloMosaic hiding ix1 ix2 ix3 eq_ix3
open Idealize.ShloMosaic.TcCoe Idealize.ShloMosaic.Tactic
open Idealize.ShloMosaic.ValueIdx Idealize.ShloMosaic.Routing
open Idealize.ShloMosaic.Pipeline (Dat Cfg Window)

/-- The windows' index maps: the expert matrices move with the point, everything else stays. -/
theorem idx : ∀ t : Fin cfg0.N, win0_0.index t = ![0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![0, 0] ∧ win0_7.index t = ![0, 0] ∧ win0_8.index t = ![0, 0] ∧ win0_9.index t = ![0, 0] :=
  (by decide +kernel : ∀ t : Fin grid0.N, _)

/-- The grid's only coordinate is the point. -/
theorem coord : ∀ t : Fin cfg0.N, (grid0.coords t 0).val = t.val :=
  (by decide +kernel : ∀ t : Fin grid0.N, _)

variable (m : (ℓ : Loc nD τ sig) → Buf (Elt Ideal) ℓ) (c : Dev nD)

/-- The arguments of core `c`. -/
abbrev arg0 : FVec Ideal S1x2048x768 .f32 := m ((c : Thread nD τ).loc main_arg0)
abbrev arg1 : FVec Ideal S8x768 .f32 := m ((c : Thread nD τ).loc main_arg1)
abbrev arg2 : FVec Ideal S1 .f32 := m ((c : Thread nD τ).loc main_arg2)
abbrev arg3 : FVec Ideal S8x1536x768 .f32 := m ((c : Thread nD τ).loc main_arg3)
abbrev arg4 : FVec Ideal S8x1536x768 .f32 := m ((c : Thread nD τ).loc main_arg4)
abbrev arg5 : FVec Ideal S8x768x1536 .f32 := m ((c : Thread nD τ).loc main_arg5)

/-- Before the region the host leaves the tokens as a matrix and the temperature as a 1 by 1 matrix. -/
theorem V_v0 : V m c main_v0 = val_main_v0 (F := Ideal) (arg0 m c) := by
  entry_read; rfl
theorem V_v1 : V m c main_v1 = shapeCast S1x1 (arg2 m c) shapeCasts_S1_S1x1 := by
  entry_read; rfl

/-- The tokens' block is the tokens as a matrix. -/
theorem blk0 : (show FVec Ideal S2048x768 .f32 from iblk m c 0 t00) = val_main_v0 (F := Ideal) (arg0 m c) := by
  refine Eq.trans (b := V m c main_v0) ?_ (V_v0 m c)
  blk_ext! [iblk, idx t00]

/-- The router's block is the router's matrix. -/
theorem blk1 : (show FVec Ideal S8x768 .f32 from iblk m c 1 t00) = arg1 m c := by
  blk_ext! [iblk, V, idx t00]

/-- The temperature's block holds the temperature. -/
theorem blk2 : (show FVec Ideal S1x1 .f32 from iblk m c 2 t00) (ix2 0 0) = arg2 m c (ix1 0) := by
  have h : (show FVec Ideal S1x1 .f32 from iblk m c 2 t00) = shapeCast S1x1 (arg2 m c) shapeCasts_S1_S1x1 := by
    refine Eq.trans (b := V m c main_v1) ?_ (V_v1 m c)
    blk_ext! [iblk, idx t00]
  rw [h]
  exact shapeCast_apply _ _ _ _ rfl

/-- Each point's matrices are its expert's. -/
theorem blk3 (t : Fin cfg0.N) (a : Fin 8) (ha : t.val = a.val) (f : Fin 1536) (d : Fin 768) :
    (show FVec Ideal S1x1536x768 .f32 from iblk m c 3 t) (ix3 0 f d) = arg3 m c (ix3 a f d) := by
  blk_ext [iblk, V, idx t]
theorem blk4 (t : Fin cfg0.N) (a : Fin 8) (ha : t.val = a.val) (f : Fin 1536) (d : Fin 768) :
    (show FVec Ideal S1x1536x768 .f32 from iblk m c 4 t) (ix3 0 f d) = arg4 m c (ix3 a f d) := by
  blk_ext [iblk, V, idx t]
theorem blk5 (t : Fin cfg0.N) (a : Fin 8) (ha : t.val = a.val) (d : Fin 768) (f : Fin 1536) :
    (show FVec Ideal S1x768x1536 .f32 from iblk m c 5 t) (ix3 0 d f) = arg5 m c (ix3 a d f) := by
  blk_ext [iblk, V, idx t]

/-- The last point leaves the output array. -/
theorem arr6 : (dats m 0 c).arrAt 6 cfg0.N = outV m c t0_7.val t0_7.isLt := by
  refine (dats m 0 c).arrAt_eq_of_after_last 6 t0_7 (by decide +kernel) _ fun j => ?_
  blk_simp
  rw [after0_6]
/-- The scalars' arrays hold what the first point left. -/
theorem arr7 : (dats m 0 c).arrAt 7 cfg0.N = auxV m c := by
  refine (dats m 0 c).arrAt_eq_of_after_last 7 t0_7 (by decide +kernel) _ fun j => ?_
  blk_simp
  rw [after0_7]
theorem arr8 : (dats m 0 c).arrAt 8 cfg0.N = entV m c := by
  refine (dats m 0 c).arrAt_eq_of_after_last 8 t0_7 (by decide +kernel) _ fun j => ?_
  blk_simp
  rw [after0_8]
theorem arr9 : (dats m 0 c).arrAt 9 cfg0.N = ovfV m c := by
  refine (dats m 0 c).arrAt_eq_of_after_last 9 t0_7 (by decide +kernel) _ fun j => ?_
  blk_simp
  rw [after0_9]

/-! ## The output, point by point -/

/-- What expert `e` adds, over the arguments of core `c`. -/
def gainV (e : Fin 8) (t : Fin 2048) (d : Fin 768) : EReal :=
  gain (arg0 m c) (arg1 m c) (arg2 m c) e (fun f d => arg3 m c (ix3 e f d)) (fun f d => arg4 m c (ix3 e f d))
    (fun d f => arg5 m c (ix3 e d f)) t d

/-- Adding an expert's contribution to the output adds it at every place. -/
theorem stepK_apply (i : grid0.Coords) (pos cf : Vec Ideal S2048x8 .f32) (xb : Vec Ideal S2048x768 .bf16)
    (x3 x4 : Vec Ideal S1x1536x768 .f32) (x5 : Vec Ideal S1x768x1536 .f32) (o : Vec Ideal S2048x768 .f32) (j : S2048x768.Idx) :
    stepK (F := Ideal) i pos cf xb x3 x4 x5 o j = (o j + contribK (F := Ideal) i pos cf xb x3 x4 x5 j : EReal) := by
  unfold stepK contribK k0_pay2
  exact congrArg (fun p : EReal => p + _) (congrFun (shapeCast_same o _) j)

variable (h0 : ∀ i, ∃ r : ℝ, arg0 m c i = (r : EReal)) (h1 : ∀ i, ∃ r : ℝ, arg1 m c i = (r : EReal))
include h0 h1

/-- Each point's contribution is what its expert adds. -/
theorem contribV (n : ℕ) (h : n < cfg0.N) (a : Fin 8) (ha : n = a.val) (t : Fin 2048) (d : Fin 768) :
    contribK (F := Ideal) (grid0.coords ⟨n, h⟩) (posV m c) (cfV m c) (xbV m c) (iblk m c 3 ⟨n, h⟩) (iblk m c 4 ⟨n, h⟩)
      (iblk m c 5 ⟨n, h⟩) (ix2 t d) = gainV m c a t d := by
  have e0 := blk0 m c
  have e1 := blk1 m c
  have e2 := blk2 m c
  have hp : posV m c = posK (F := Ideal) (val_main_v0 (F := Ideal) (arg0 m c)) (arg1 m c) (iblk m c 2 t00) :=
    congrArg₂ (fun p q => posK (F := Ideal) p q (iblk m c 2 t00)) e0 e1
  have hc : cfV m c = cfK (F := Ideal) (val_main_v0 (F := Ideal) (arg0 m c)) (arg1 m c) (iblk m c 2 t00) :=
    congrArg₂ (fun p q => cfK (F := Ideal) p q (iblk m c 2 t00)) e0 e1
  have hx : xbV m c = xbK (F := Ideal) (val_main_v0 (F := Ideal) (arg0 m c)) := congrArg (xbK (F := Ideal)) e0
  rw [hp, hc, hx]
  refine (contrib_gain (arg0 m c) (arg1 m c) (arg2 m c) (iblk m c 2 t00) e2 h0 h1 (grid0.coords ⟨n, h⟩) a
    ((coord ⟨n, h⟩).trans ha) (iblk m c 3 ⟨n, h⟩) (iblk m c 4 ⟨n, h⟩) (iblk m c 5 ⟨n, h⟩) t d).trans ?_
  unfold gainV
  rw [show (fun f d => (show FVec Ideal S1x1536x768 .f32 from iblk m c 3 ⟨n, h⟩) (ix3 0 f d)) = fun f d => arg3 m c (ix3 a f d) from
      funext fun f => funext fun d => blk3 m c ⟨n, h⟩ a ha f d,
    show (fun f d => (show FVec Ideal S1x1536x768 .f32 from iblk m c 4 ⟨n, h⟩) (ix3 0 f d)) = fun f d => arg4 m c (ix3 a f d) from
      funext fun f => funext fun d => blk4 m c ⟨n, h⟩ a ha f d,
    show (fun d f => (show FVec Ideal S1x768x1536 .f32 from iblk m c 5 ⟨n, h⟩) (ix3 0 d f)) = fun d f => arg5 m c (ix3 a d f) from
      funext fun d => funext fun f => blk5 m c ⟨n, h⟩ a ha d f]

/-- The output after point `n` is the sum of what the experts up to `n` add. -/
theorem outV_sum (t : Fin 2048) (d : Fin 768) : ∀ (n : ℕ) (h : n < cfg0.N),
    outV m c n h (ix2 t d) = ∑ e ∈ Finset.univ.filter (fun e : Fin 8 => e.val ≤ n), gainV m c e t d
  | 0, h => by
    have hf : (Finset.univ.filter (fun e : Fin 8 => e.val ≤ 0)) = {0} := by decide
    rw [hf, Finset.sum_singleton]
    exact contribV m c h0 h1 0 h 0 rfl t d
  | n + 1, h => by
    have hN : n + 1 < 8 := lt_of_lt_of_eq h (show cfg0.N = 8 from N_0)
    have hf : (Finset.univ.filter (fun e : Fin 8 => e.val ≤ n + 1))
        = insert ⟨n + 1, hN⟩ (Finset.univ.filter (fun e : Fin 8 => e.val ≤ n)) := by
      ext e
      simp only [Finset.mem_filter, Finset.mem_univ, true_and, Finset.mem_insert, Fin.ext_iff]
      omega
    rw [hf, Finset.sum_insert (by simp), add_comm (gainV m c ⟨n + 1, hN⟩ t d)]
    refine (stepK_apply _ _ _ _ _ _ _ _ _).trans ?_
    exact congrArg₂ (fun p q : EReal => p + q) (outV_sum t d n (Nat.lt_of_succ_lt h))
      (contribV m c h0 h1 (n + 1) h ⟨n + 1, hN⟩ rfl t d)

/-- The output array reads the reference's output. -/
theorem out_final (t : Fin 2048) (d : Fin 768) : outV m c t0_7.val t0_7.isLt (ix2 t d)
    = val_main_v151 (F := Ideal) (arg0 m c) (arg1 m c) (arg2 m c) (arg3 m c) (arg4 m c) (arg5 m c) (ix3 0 t d) := by
  rw [outV_sum m c h0 h1 t d t0_7.val t0_7.isLt, refOut]
  refine Finset.sum_congr (Finset.filter_true_of_mem fun e _ => ?_) fun e _ => rfl
  have := e.isLt
  show e.val ≤ 7
  omega

/-- The first result at a place: the output array as one batch. -/
theorem res0_apply (t : Fin 2048) (d : Fin 768) :
    shapeCast S1x2048x768 (show FVec Ideal S2048x768 .f32 from outV m c t0_7.val t0_7.isLt) shapeCasts_S2048x768_S1x2048x768 (ix3 0 t d)
    = val_main_v151 (F := Ideal) (arg0 m c) (arg1 m c) (arg2 m c) (arg3 m c) (arg4 m c) (arg5 m c) (ix3 0 t d) := by
  refine (shapeCast_apply _ _ _ (ix2 t d) ?_).trans (out_final m c h0 h1 t d)
  rw [Shape.rowMajor_val_two, Shape.rowMajor_val_three]
  show t.val * 768 + d.val = (0 * 2048 + t.val) * 768 + d.val
  omega

/-- The first result. -/
theorem res0 : shapeCast S1x2048x768 (show FVec Ideal S2048x768 .f32 from outV m c t0_7.val t0_7.isLt) shapeCasts_S2048x768_S1x2048x768
    = val_main_v151 (F := Ideal) (arg0 m c) (arg1 m c) (arg2 m c) (arg3 m c) (arg4 m c) (arg5 m c) := by
  funext j
  have hj : j = ix3 (0 : Fin 1) (j 1) (j 2) :=
    (eq_ix3 j).trans (congrArg (fun p => ix3 p (j 1) (j 2)) (Subsingleton.elim (α := Fin 1) _ _))
  rw [hj]
  exact res0_apply m c h0 h1 (j 1) (j 2)

/-- The other results: the balance term, the entropy term and the overflow share. -/
theorem res1 : shapeCast S_ (show FVec Ideal S1x1 .f32 from auxV m c) shapeCasts_S1x1_S_
    = val_main_v46 (F := Ideal) (arg0 m c) (arg1 m c) (arg2 m c) := by
  funext i
  refine (shapeCast_apply _ _ i (ix2 0 0) ?_).trans ?_
  · rfl
  · refine Eq.trans ?_ (aux_eq (arg0 m c) (arg1 m c) (arg2 m c) (iblk m c 2 t00) (blk2 m c) h0 h1 (ix2 0 0) i)
    exact congrFun (congrArg₂ (fun p q => auxK (F := Ideal) p q (iblk m c 2 t00)) (blk0 m c) (blk1 m c)) (ix2 0 0)
theorem res2 : shapeCast S_ (show FVec Ideal S1x1 .f32 from entV m c) shapeCasts_S1x1_S_
    = val_main_v54 (F := Ideal) (arg0 m c) (arg1 m c) (arg2 m c) := by
  funext i
  refine (shapeCast_apply _ _ i (ix2 0 0) ?_).trans ?_
  · rfl
  · refine Eq.trans ?_ (ent_eq (arg0 m c) (arg1 m c) (arg2 m c) (iblk m c 2 t00) (blk2 m c) h0 h1 (ix2 0 0) i)
    exact congrFun (congrArg₂ (fun p q => entK (F := Ideal) p q (iblk m c 2 t00)) (blk0 m c) (blk1 m c)) (ix2 0 0)
theorem res3 : shapeCast S_ (show FVec Ideal S1x1 .f32 from ovfV m c) shapeCasts_S1x1_S_
    = val_main_v70 (F := Ideal) (arg0 m c) (arg1 m c) (arg2 m c) := by
  funext i
  refine (shapeCast_apply _ _ i (ix2 0 0) ?_).trans ?_
  · rfl
  · refine Eq.trans ?_ (ovf_eq (arg0 m c) (arg1 m c) (arg2 m c) (iblk m c 2 t00) (blk2 m c) h0 h1 (ix2 0 0) i)
    exact congrFun (congrArg₂ (fun p q => ovfK (F := Ideal) p q (iblk m c 2 t00)) (blk0 m c) (blk1 m c)) (ix2 0 0)

end Cert.KernelIdeal.Hand

end
-- ==== Proof.Results.lean ====
/-
  The two runs read at their results: the reference ends with its values, and the kernel, over finite
  tokens and router weights, ends with the reference's values.
-/
module

public import proofs.«01_k».proof.Proof.Values
public import proofs.«01_k».proof.Proof.Gen.ReferenceIdeal.Run
public import proofs.«01_k».proof.Proof.Gen.ReferenceIdeal.Read

@[expose] public section

set_option maxRecDepth 16384

noncomputable section

namespace Cert.ReferenceIdeal.Hand

open Cert.ReferenceIdeal Cert.ReferenceIdeal.Read
open Idealize.ShloMosaic Idealize.ShloMosaic.TcCoe Idealize.SL.Sem

/-- The reference runs to its four values of its arguments, which stay. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v151) = val_main_v151 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v46) = val_main_v46 (F := Ideal) (m ((c.tc : Thread nD τ).loc main_arg0))
          (m ((c.tc : Thread nD τ).loc main_arg1)) (m ((c.tc : Thread nD τ).loc main_arg2))
      ∧ r.2.mem ((c.tc : Thread nD τ).loc main_v54) = val_main_v54 (F := Ideal) (m ((c.tc : Thread nD τ).loc main_arg0))
          (m ((c.tc : Thread nD τ).loc main_arg1)) (m ((c.tc : Thread nD τ).loc main_arg2))
      ∧ r.2.mem ((c.tc : Thread nD τ).loc main_v70) = val_main_v70 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (Cert.ReferenceIdeal.Value.run (F := Ideal) m ρ) fun r h c =>
    ⟨(h c).1.trans (val_main_v151_eq (F := Ideal) (StableHlo.launchContents m c)),
      (h c).2.1.trans (val_main_v46_eq (F := Ideal) (StableHlo.launchContents m c)),
      (h c).2.2.1.trans (val_main_v54_eq (F := Ideal) (StableHlo.launchContents m c)),
      (h c).2.2.2.1.trans (val_main_v70_eq (F := Ideal) (StableHlo.launchContents m c)),
      (h c).2.2.2.2⟩

end Cert.ReferenceIdeal.Hand

namespace Cert.KernelIdeal.Hand

open Cert.KernelIdeal Cert.KernelIdeal.Gen Cert.ReferenceIdeal.Read
open Idealize.ShloMosaic Idealize.ShloMosaic.TcCoe Idealize.SL.Sem

/-- The host lines behind the region reshape the four arrays into the results. -/
theorem tail_v3 (σ : Valuation τ sig (Elt Ideal)) : StableHlo.after (List.flatten [hostOps1 (F := Ideal)]) σ (Proc.devRef .tc main_v3)
    = shapeCast S1x2048x768 (σ (Proc.devRef .tc main_v2_0)) shapeCasts_S2048x768_S1x2048x768 := by
  entry_read; rfl
theorem tail_v4 (σ : Valuation τ sig (Elt Ideal)) : StableHlo.after (List.flatten [hostOps1 (F := Ideal)]) σ (Proc.devRef .tc main_v4)
    = shapeCast S_ (σ (Proc.devRef .tc main_v2_1)) shapeCasts_S1x1_S_ := by
  entry_read; rfl
theorem tail_v5 (σ : Valuation τ sig (Elt Ideal)) : StableHlo.after (List.flatten [hostOps1 (F := Ideal)]) σ (Proc.devRef .tc main_v5)
    = shapeCast S_ (σ (Proc.devRef .tc main_v2_2)) shapeCasts_S1x1_S_ := by
  entry_read; rfl
theorem tail_v6 (σ : Valuation τ sig (Elt Ideal)) : StableHlo.after (List.flatten [hostOps1 (F := Ideal)]) σ (Proc.devRef .tc main_v6)
    = shapeCast S_ (σ (Proc.devRef .tc main_v2_3)) shapeCasts_S1x1_S_ := by
  entry_read; rfl

/-- After the run each result buffer is its window's array reshaped. -/
theorem W_v3 (m : (ℓ : Loc nD τ sig) → Buf (Elt Ideal) ℓ) (c : Dev nD) (X : FVec Ideal S2048x768 .f32)
    (hX : (dats m 0 c).arrAt 6 cfg0.N = X) :
    Pipeline.afterTail₀ cfgs (dats m) 0 (V0 m) [hostOps1] c main_v3 = shapeCast S1x2048x768 X shapeCasts_S2048x768_S1x2048x768 := by
  unfold Pipeline.afterTail₀
  refine (tail_v3 _).trans (congrArg (fun Y : FVec Ideal S2048x768 .f32 => shapeCast S1x2048x768 Y shapeCasts_S2048x768_S1x2048x768) ?_)
  exact (Pipeline.withArrays_arr spec0 launch0.win.arr_inj c (V0 m c) _ 6).trans hX
theorem W_v4 (m : (ℓ : Loc nD τ sig) → Buf (Elt Ideal) ℓ) (c : Dev nD) (X : FVec Ideal S1x1 .f32)
    (hX : (dats m 0 c).arrAt 7 cfg0.N = X) :
    Pipeline.afterTail₀ cfgs (dats m) 0 (V0 m) [hostOps1] c main_v4 = shapeCast S_ X shapeCasts_S1x1_S_ := by
  unfold Pipeline.afterTail₀
  refine (tail_v4 _).trans (congrArg (fun Y : FVec Ideal S1x1 .f32 => shapeCast S_ Y shapeCasts_S1x1_S_) ?_)
  exact (Pipeline.withArrays_arr spec0 launch0.win.arr_inj c (V0 m c) _ 7).trans hX
theorem W_v5 (m : (ℓ : Loc nD τ sig) → Buf (Elt Ideal) ℓ) (c : Dev nD) (X : FVec Ideal S1x1 .f32)
    (hX : (dats m 0 c).arrAt 8 cfg0.N = X) :
    Pipeline.afterTail₀ cfgs (dats m) 0 (V0 m) [hostOps1] c main_v5 = shapeCast S_ X shapeCasts_S1x1_S_ := by
  unfold Pipeline.afterTail₀
  refine (tail_v5 _).trans (congrArg (fun Y : FVec Ideal S1x1 .f32 => shapeCast S_ Y shapeCasts_S1x1_S_) ?_)
  exact (Pipeline.withArrays_arr spec0 launch0.win.arr_inj c (V0 m c) _ 8).trans hX
theorem W_v6 (m : (ℓ : Loc nD τ sig) → Buf (Elt Ideal) ℓ) (c : Dev nD) (X : FVec Ideal S1x1 .f32)
    (hX : (dats m 0 c).arrAt 9 cfg0.N = X) :
    Pipeline.afterTail₀ cfgs (dats m) 0 (V0 m) [hostOps1] c main_v6 = shapeCast S_ X shapeCasts_S1x1_S_ := by
  unfold Pipeline.afterTail₀
  refine (tail_v6 _).trans (congrArg (fun Y : FVec Ideal S1x1 .f32 => shapeCast S_ Y shapeCasts_S1x1_S_) ?_)
  exact (Pipeline.withArrays_arr spec0 launch0.win.arr_inj c (V0 m c) _ 9).trans hX

/-- The kernel, over finite tokens and router weights, runs to the reference's four values of its arguments, which stay. -/
theorem run_values (m : (ℓ : Loc nD τ sig) → Buf (Elt Ideal) ℓ) (ρ : Dev nD → PrngReg)
    (hfin : ∀ c : Dev nD, (∀ i, ∃ r : ℝ, arg0 m c i = (r : EReal)) ∧ (∀ i, ∃ r : ℝ, arg1 m c i = (r : EReal))) :
    θ_run (defs (F := Ideal)) (onTc (τ := τ) (main (F := Ideal))) ⟨m, fun _ => 0, ρ⟩ fun r => ∀ c : Dev nD,
      r.2.mem ((c.tc : Thread nD τ).loc main_v3) = val_main_v151 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v4) = val_main_v46 (F := Ideal) (m ((c.tc : Thread nD τ).loc main_arg0))
          (m ((c.tc : Thread nD τ).loc main_arg1)) (m ((c.tc : Thread nD τ).loc main_arg2))
      ∧ r.2.mem ((c.tc : Thread nD τ).loc main_v5) = val_main_v54 (F := Ideal) (m ((c.tc : Thread nD τ).loc main_arg0))
          (m ((c.tc : Thread nD τ).loc main_arg1)) (m ((c.tc : Thread nD τ).loc main_arg2))
      ∧ r.2.mem ((c.tc : Thread nD τ).loc main_v6) = val_main_v70 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (run_main m ρ) fun r h c => ?_
  have hr (b : Ref sig .tc) := (h c).2 b
  refine ⟨(hr main_v3 (Pipeline.mem_restRefs_of main_v3 (by decide) (by decide))).trans
      ((W_v3 m c _ (arr6 m c)).trans (res0 m c (hfin c).1 (hfin c).2)),
    (hr main_v4 (Pipeline.mem_restRefs_of main_v4 (by decide) (by decide))).trans
      ((W_v4 m c _ (arr7 m c)).trans (res1 m c (hfin c).1 (hfin c).2)),
    (hr main_v5 (Pipeline.mem_restRefs_of main_v5 (by decide) (by decide))).trans
      ((W_v5 m c _ (arr8 m c)).trans (res2 m c (hfin c).1 (hfin c).2)),
    (hr main_v6 (Pipeline.mem_restRefs_of main_v6 (by decide) (by decide))).trans
      ((W_v6 m c _ (arr9 m c)).trans (res3 m c (hfin c).1 (hfin c).2)),
    (hr main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    (hr main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_router_finite
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KFrame
public import proofs.«01_k».proof.Proof.Results
public import proofs.«01_k».proof.Proof.PKFrame
public import Idealize.ShloMosaic.Adequacy
public import Idealize.ShloMosaic.Init

@[expose] public section

noncomputable section

namespace Cert.Proof

open Idealize.ShloMosaic Idealize.SL.Sem Cert.Kernel

/-- The reference's frame: its run read at the argument arrays; it declares no semaphore. -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The frame under the precondition is the frame. -/
theorem frame_ri_pre [hPre : Cert.Pre_router_finite.Facts] : Cert.quiescent_ReferenceIdeal_pre_router_finite :=
  fun m ρ _ => frame_ri m ρ trivial

/-- Over finite tokens and router weights the kernel's four results are the reference's. -/
theorem algebraic : Cert.algebraic_KernelIdeal_ReferenceIdeal_pre_router_finite := by
  intro m g m' g' hpre hagree
  refine ⟨_, _, _, _, Cert.KernelIdeal.Hand.run_values m g fun c => Cert.KernelIdeal.Hand.finite_of_pre _ _ _ _ _ _ (hpre c), ?_⟩
  refine θ_run_mono (Cert.ReferenceIdeal.Hand.run_values m' g') fun r h c => ?_
  have ha := hagree c
  have hc := h c
  refine ⟨hc.1.trans ?_, hc.2.1.trans ?_, hc.2.2.1.trans ?_, hc.2.2.2.1.trans ?_, hc.2.2.2.2⟩
  · rw [ha.1, ha.2.1, ha.2.2.1, ha.2.2.2.1, ha.2.2.2.2.1, ha.2.2.2.2.2]
  · rw [ha.1, ha.2.1, ha.2.2.1]
  · rw [ha.1, ha.2.1, ha.2.2.1]
  · rw [ha.1, ha.2.1, ha.2.2.1]

/-- The certificate's claim: the frames, the idealization's, and the equation of the results. -/
theorem claim : Cert.Claim := ⟨Cert.Kernel.Gen.facts, Cert.KernelIdeal.Gen.facts, Cert.ReferenceIdeal.Gen.facts,
  Cert.Pre_router_finite.Gen.facts,
  fun m ρ _ => Cert.Kernel.Hand.frame m ρ, fun m ρ _ => Cert.KernelIdeal.Hand.frame m ρ,
  fun m ρ _ => Cert.KernelIdeal.Hand.frame m ρ, frame_ri, frame_ri_pre, trivial, algebraic⟩

end Cert.Proof

end
